-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32768x256 : Shape := ⟨2, ![32768, 256]⟩
abbrev S24x128 : Shape := ⟨2, ![24, 128]⟩
abbrev S256 : Shape := ⟨1, ![256]⟩
abbrev S_ : Shape := ⟨0, ![]⟩

class Facts : Prop where
  reducesTo_S256_S_d0 : S256.ReducesTo [0] S_
  h_S_ : 0 < S_.numel
  bcast_S_S256 : S_.BroadcastsInDim S256 (![] : Fin 0 → Fin S256.rank)
  bcast_S_S32768x256 : S_.BroadcastsInDim S32768x256 (![] : Fin 0 → Fin S32768x256.rank)
  reducesTo_S32768x256_S_d0_1 : S32768x256.ReducesTo [0, 1] S_
  bcast_S_S24x128 : S_.BroadcastsInDim S24x128 (![] : Fin 0 → Fin S24x128.rank)
  reducesTo_S24x128_S_d0_1 : S24x128.ReducesTo [0, 1] S_

variable [Facts]

def fn_part1 {F : FTy → Type} [FloatOps F] (main_arg1 : FVec F S24x128 .f32) (main_v12 : IVec S_ 1) (main_v16 : IVec S_ 1) : IVec S_ 1 :=
  let main_v17 : IVec S_ 1 := andi main_v12 main_v16
  let main_v18 : FVec F S24x128 .f32 := Host.absf main_arg1
  let main_cst_5 : FVec F S_ .f32 := constant S_ .f32 0x7F800000#32
  let main_v19 : FVec F S24x128 .f32 := broadcastInDim S24x128 ![] bcast_S_S24x128 main_cst_5
  let main_v20 : IVec S24x128 1 := cmpf .olt main_v18 main_v19
  let main_c_6 : IVec S_ 1 := constantI S_ 1 1#1
  let main_v21 : IVec S_ 1 := (fun x v => Host.reduce IntOp.andi x v reducesTo_S24x128_S_d0_1 h_S_) main_v20 main_c_6
  let main_v22 : IVec S_ 1 := andi main_v17 main_v21
  main_v22

def fn {F : FTy → Type} [FloatOps F] (main_arg0 : FVec F S32768x256 .f32) (main_arg1 : FVec F S24x128 .f32) (main_arg2 : IVec S256 32) (main_arg3 : IVec S256 32) : IVec S_ 1 :=
  let main_v0 : IVec S256 32 := iotaInDim S256 32 0
  let main_v1 : IVec S256 1 := cmpi .eq main_arg2 main_v0
  let main_c : IVec S_ 1 := constantI S_ 1 1#1
  let main_v2 : IVec S_ 1 := (fun x v => Host.reduce IntOp.andi x v reducesTo_S256_S_d0 h_S_) main_v1 main_c
  let main_c_0 : IVec S_ 32 := constantI S_ 32 1#32
  let main_v3 : IVec S256 32 := broadcastInDim S256 ![] bcast_S_S256 main_c_0
  let main_v4 : IVec S256 32 := Host.shrsi main_v0 main_v3
  let main_c_1 : IVec S_ 32 := constantI S_ 32 1#32
  let main_v5 : IVec S256 32 := broadcastInDim S256 ![] bcast_S_S256 main_c_1
  let main_v6 : IVec S256 32 := andi main_v0 main_v5
  let main_c_2 : IVec S_ 32 := constantI S_ 32 128#32
  let main_v7 : IVec S256 32 := broadcastInDim S256 ![] bcast_S_S256 main_c_2
  let main_v8 : IVec S256 32 := muli main_v7 main_v6
  let main_v9 : IVec S256 32 := addi main_v4 main_v8
  let main_v10 : IVec S256 1 := cmpi .eq main_arg3 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v2 main_v11
  let main_v13 : FVec F S32768x256 .f32 := Host.absf main_arg0
  let main_cst : FVec F S_ .f32 := constant S_ .f32 0x7F800000#32
  let main_v14 : FVec F S32768x256 .f32 := broadcastInDim S32768x256 ![] bcast_S_S32768x256 main_cst
  let main_v15 : IVec S32768x256 1 := cmpf .olt main_v13 main_v14
  let main_c_4 : IVec S_ 1 := constantI S_ 1 1#1
  let main_v16 : IVec S_ 1 := (fun x v => Host.reduce IntOp.andi x v reducesTo_S32768x256_S_d0_1 h_S_) main_v15 main_c_4
  fn_part1 (F := F) main_arg1 main_v12 main_v16
-- ==== Kernel.lean ====
abbrev S32768x256 : Shape := ⟨2, ![32768, 256]⟩
abbrev S24x128 : Shape := ⟨2, ![24, 128]⟩
abbrev S256 : Shape := ⟨1, ![256]⟩
abbrev S12x128 : Shape := ⟨2, ![12, 128]⟩
abbrev S_ : Shape := ⟨0, ![]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S256x1 : Shape := ⟨2, ![256, 1]⟩
abbrev S256x256 : Shape := ⟨2, ![256, 256]⟩
abbrev S8388608 : Shape := ⟨1, ![8388608]⟩
abbrev S1048576 : Shape := ⟨1, ![1048576]⟩
abbrev S16384 : Shape := ⟨1, ![16384]⟩
abbrev S16 : Shape := ⟨1, ![16]⟩
abbrev S2048x256 : Shape := ⟨2, ![2048, 256]⟩
abbrev S4096x256 : Shape := ⟨2, ![4096, 256]⟩

abbrev nBuf : Table → Nat
  | .hbm => 116
  | .local .tc .vmem => 5
  | .local .scVector .vmem => 8
  | _ => 0

abbrev bufTy : (tb : Table) → Fin (nBuf tb) → BufTy
  | .hbm, ⟨0, _⟩ => ⟨S32768x256, .f32⟩
  | .hbm, ⟨1, _⟩ => ⟨S24x128, .f32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S12x128, .f32⟩
  | .hbm, ⟨6, _⟩ => ⟨S_, .f32⟩
  | .hbm, ⟨7, _⟩ => ⟨S128, .f32⟩
  | .hbm, ⟨8, _⟩ => ⟨S128, .i32⟩
  | .hbm, ⟨9, _⟩ => ⟨S128, .i32⟩
  | .hbm, ⟨10, _⟩ => ⟨S128, .f32⟩
  | .hbm, ⟨11, _⟩ => ⟨S128, .f32⟩
  | .hbm, ⟨12, _⟩ => ⟨S128x1, .i32⟩
  | .hbm, ⟨13, _⟩ => ⟨S1x256, .i32⟩
  | .hbm, ⟨14, _⟩ => ⟨S128x256, .i32⟩
  | .hbm, ⟨15, _⟩ => ⟨S128x256, .i32⟩
  | .hbm, ⟨16, _⟩ => ⟨S128x256, .i1⟩
  | .hbm, ⟨17, _⟩ => ⟨S128x256, .f32⟩
  | .hbm, ⟨18, _⟩ => ⟨S128x1, .i32⟩
  | .hbm, ⟨19, _⟩ => ⟨S1x256, .i32⟩
  | .hbm, ⟨20, _⟩ => ⟨S128x256, .i32⟩
  | .hbm, ⟨21, _⟩ => ⟨S128x256, .i32⟩
  | .hbm, ⟨22, _⟩ => ⟨S128x256, .i1⟩
  | .hbm, ⟨23, _⟩ => ⟨S128x256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S12x128, .f32⟩
  | .hbm, ⟨31, _⟩ => ⟨S_, .f32⟩
  | .hbm, ⟨32, _⟩ => ⟨S128, .f32⟩
  | .hbm, ⟨33, _⟩ => ⟨S128, .i32⟩
  | .hbm, ⟨34, _⟩ => ⟨S128, .i32⟩
  | .hbm, ⟨35, _⟩ => ⟨S128, .f32⟩
  | .hbm, ⟨36, _⟩ => ⟨S128, .f32⟩
  | .hbm, ⟨37, _⟩ => ⟨S128x1, .i32⟩
  | .hbm, ⟨38, _⟩ => ⟨S1x256, .i32⟩
  | .hbm, ⟨39, _⟩ => ⟨S128x256, .i32⟩
  | .hbm, ⟨40, _⟩ => ⟨S128x256, .i32⟩
  | .hbm, ⟨41, _⟩ => ⟨S128x256, .i1⟩
  | .hbm, ⟨42, _⟩ => ⟨S128x256, .f32⟩
  | .hbm, ⟨43, _⟩ => ⟨S128x1, .i32⟩
  | .hbm, ⟨44, _⟩ => ⟨S1x256, .i32⟩
  | .hbm, ⟨45, _⟩ => ⟨S128x256, .i32⟩
  | .hbm, ⟨46, _⟩ => ⟨S128x256, .i32⟩
  | .hbm, ⟨47, _⟩ => ⟨S128x256, .i1⟩
  | .hbm, ⟨48, _⟩ => ⟨S128x256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .i32⟩
  | .hbm, ⟨56, _⟩ => ⟨S256x1, .i32⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S1x256, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .f32⟩
  | .hbm, ⟨65, _⟩ => ⟨S256x1, .i32⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S1x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S256x256, .f32⟩
  | .hbm, ⟨74, _⟩ => ⟨S_, .f32⟩
  | .hbm, ⟨75, _⟩ => ⟨S256, .f32⟩
  | .hbm, ⟨76, _⟩ => ⟨S256x256, .i32⟩
  | .hbm, ⟨77, _⟩ => ⟨S256x256, .i32⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S256x256, .i1⟩
  | .hbm, ⟨82, _⟩ => ⟨S256x1, .f32⟩
  | .hbm, ⟨83, _⟩ => ⟨S_, .f32⟩
  | .hbm, ⟨84, _⟩ => ⟨S256x256, .f32⟩
  | .hbm, ⟨85, _⟩ => ⟨S256x256, .f32⟩
  | .hbm, ⟨86, _⟩ => ⟨S256x256, .f32⟩
  | .hbm, ⟨87, _⟩ => ⟨S1x256, .f32⟩
  | .hbm, ⟨88, _⟩ => ⟨S256x256, .f32⟩
  | .hbm, ⟨89, _⟩ => ⟨S256x256, .f32⟩
  | .hbm, ⟨90, _⟩ => ⟨S256x256, .f32⟩
  | .hbm, ⟨91, _⟩ => ⟨S_, .f32⟩
  | .hbm, ⟨92, _⟩ => ⟨S256, .f32⟩
  | .hbm, ⟨93, _⟩ => ⟨S256x256, .i32⟩
  | .hbm, ⟨94, _⟩ => ⟨S256x256, .i32⟩
  | .hbm, ⟨95, _⟩ => ⟨S_, .i32⟩
  | .hbm, ⟨96, _⟩ => ⟨S256x256, .i32⟩
  | .hbm, ⟨97, _⟩ => ⟨S256x256, .i32⟩
  | .hbm, ⟨98, _⟩ => ⟨S256x256, .i1⟩
  | .hbm, ⟨99, _⟩ => ⟨S256x1, .f32⟩
  | .hbm, ⟨100, _⟩ => ⟨S_, .f32⟩
  | .hbm, ⟨101, _⟩ => ⟨S256x256, .f32⟩
  | .hbm, ⟨102, _⟩ => ⟨S256x256, .f32⟩
  | .hbm, ⟨103, _⟩ => ⟨S256x256, .f32⟩
  | .hbm, ⟨104, _⟩ => ⟨S1x256, .f32⟩
  | .hbm, ⟨105, _⟩ => ⟨S256x256, .f32⟩
  | .hbm, ⟨106, _⟩ => ⟨S256x256, .f32⟩
  | .hbm, ⟨107, _⟩ => ⟨S256x256, .f32⟩
  | .hbm, ⟨108, _⟩ => ⟨S256x256, .f32⟩
  | .hbm, ⟨109, _⟩ => ⟨S8388608, .f32⟩
  | .hbm, ⟨110, _⟩ => ⟨S1048576, .f32⟩
  | .hbm, ⟨111, _⟩ => ⟨S32768x256, .f32⟩
  | .hbm, ⟨112, _⟩ => ⟨S4096x256, .f32⟩
  | .hbm, ⟨113, _⟩ => ⟨S_, .i32⟩
  | .hbm, ⟨114, _⟩ => ⟨S_, .i32⟩
  | .hbm, ⟨115, _⟩ => ⟨S32768x256, .f32⟩
  | .local .tc .vmem, ⟨0, _⟩ => ⟨S2048x256, .f32⟩
  | .local .tc .vmem, ⟨1, _⟩ => ⟨S2048x256, .f32⟩
  | .local .tc .vmem, ⟨2, _⟩ => ⟨S256x256, .f32⟩
  | .local .tc .vmem, ⟨3, _⟩ => ⟨S2048x256, .f32⟩
  | .local .tc .vmem, ⟨4, _⟩ => ⟨S2048x256, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S256, .f32⟩
  | .local .scVector .vmem, ⟨5, _⟩ => ⟨S256, .f32⟩
  | .local .scVector .vmem, ⟨6, _⟩ => ⟨S256, .f32⟩
  | .local .scVector .vmem, ⟨7, _⟩ => ⟨S256, .f32⟩
  | _, _ => ⟨S32768x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_c : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_c_1 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_c : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_cst_0 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_c : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_cst_0 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_2 : Ref sig .tc := ⟨.hbm, 113, rfl⟩
abbrev main_c_3 : Ref sig .tc := ⟨.hbm, 114, rfl⟩
abbrev main_v81 : Ref sig .tc := ⟨.hbm, 115, rfl⟩
abbrev main_v77_scv : Ref sig .scVector := ⟨.hbm, 109, rfl⟩
abbrev main_v21_scv : Ref sig .scVector := ⟨.hbm, 26, rfl⟩
abbrev main_v24_scv : Ref sig .scVector := ⟨.hbm, 29, rfl⟩
abbrev main_v45_scv : Ref sig .scVector := ⟨.hbm, 51, rfl⟩
abbrev main_v48_scv : Ref sig .scVector := ⟨.hbm, 54, rfl⟩
abbrev main_v78_scv : Ref sig .scVector := ⟨.hbm, 110, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32 : BitVec 32 := 0#32
  let v6 : BitVec 32 := Scalar.addi v2 c0_i32
  ![v6.toNat]
def k0_cond1 : BitVec 1 :=
  let c0_i32_1 : BitVec 32 := 0#32
  let c2_i32_2 : BitVec 32 := 2#32
  let v9 : BitVec 32 := Scalar.muli c0_i32_1 c2_i32_2
  let c0_i32_3 : BitVec 32 := 0#32
  let v10 : BitVec 32 := Scalar.addi v9 c0_i32_3
  let c1_i32_4 : BitVec 32 := 1#32
  let v11 : BitVec 32 := Scalar.addi v10 c1_i32_4
  let c2_i32_5 : BitVec 32 := 2#32
  let v12 : BitVec 1 := Scalar.cmpi .slt v11 c2_i32_5
  let v13 : BitVec 32 := Scalar.extui v12
  let c0_i32_6 : BitVec 32 := 0#32
  let v14 : BitVec 1 := Scalar.cmpi .ne v13 c0_i32_6
  v14

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_1 : BitVec 32 := 0#32
  let c2_i32_2 : BitVec 32 := 2#32
  let v9 : BitVec 32 := Scalar.muli c0_i32_1 c2_i32_2
  let c0_i32_3 : BitVec 32 := 0#32
  let v10 : BitVec 32 := Scalar.addi v9 c0_i32_3
  let c1_i32_202 : BitVec 32 := 1#32
  let v187 : BitVec 32 := Scalar.addi v10 c1_i32_202
  let c16384_i32_203 : BitVec 32 := 16384#32
  let v188 : BitVec 32 := Scalar.muli v187 c16384_i32_203
  let v189 : BitVec 32 := Scalar.addi v2 v188
  ![v189.toNat]
@[reducible] def k0_t1_loop : Scf.Loop 32 :=
  let c0_i32_17 : BitVec 32 := 0#32
  let c64_i32 : BitVec 32 := 64#32
  let v28 : BitVec 32 := Scalar.addi c0_i32_17 c64_i32
  let c1_i32_18 : BitVec 32 := 1#32
  ⟨c0_i32_17, v28, c1_i32_18⟩
def k0_off3 (k0_t1 : Fin k0_t1_loop.trips) (c0_i32_204 : BitVec 32) : Fin 1 → Nat :=
  let c0_i32_203 : BitVec 32 := 0#32
  let c0_i32_17 : BitVec 32 := 0#32
  let c1_i32_18 : BitVec 32 := 1#32
  let arg20 : BitVec 32 := Scf.iv c0_i32_17 c1_i32_18 k0_t1
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c0_i32_204
  let v191 : Index := Scalar.indexCast v190
  ![v191.toNat]

def k0_chk1 (v199 : IVec S16 32) : Prop :=
  (∀ a x, ((![v199] : Fin 1 → IVec S16 32) a x).toNat < S16384.size a)
theorem k0_idx1_inb : ∀ (v199 : IVec S16 32) (k0_hw1 : k0_chk1 v199), ∀ a x, ((![v199] : Fin 1 → IVec S16 32) a x).toNat < S16384.size a := fun v199 k0_hw1 => k0_hw1

def k0_chk2 (v206 : IVec S16 32) : Prop :=
  (∀ a x, ((![v206] : Fin 1 → IVec S16 32) a x).toNat < S16384.size a)
theorem k0_idx2_inb : ∀ (v206 : IVec S16 32) (k0_hw2 : k0_chk2 v206), ∀ a x, ((![v206] : Fin 1 → IVec S16 32) a x).toNat < S16384.size a := fun v206 k0_hw2 => k0_hw2
def k0_off4 (k0_t1 : Fin k0_t1_loop.trips) (c0_i32_207 : BitVec 32) : Fin 1 → Nat :=
  let c0_i32_203 : BitVec 32 := 0#32
  let c0_i32_17 : BitVec 32 := 0#32
  let c1_i32_18 : BitVec 32 := 1#32
  let arg20 : BitVec 32 := Scf.iv c0_i32_17 c1_i32_18 k0_t1
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c0_i32_207
  let v214 : Index := Scalar.indexCast v213
  ![v214.toNat]
@[reducible] def k0_t2_loop : Scf.Loop 32 :=
  let c0_i32_26 : BitVec 32 := 0#32
  let c64_i32_27 : BitVec 32 := 64#32
  let v37 : BitVec 32 := Scalar.addi c0_i32_26 c64_i32_27
  let c1_i32_28 : BitVec 32 := 1#32
  ⟨c0_i32_26, v37, c1_i32_28⟩
def k0_off5 (k0_t2 : Fin k0_t2_loop.trips) (c16_i32 : BitVec 32) : Fin 1 → Nat :=
  let c0_i32_203 : BitVec 32 := 0#32
  let c0_i32_26 : BitVec 32 := 0#32
  let c1_i32_28 : BitVec 32 := 1#32
  let arg20 : BitVec 32 := Scf.iv c0_i32_26 c1_i32_28 k0_t2
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c16_i32
  let v191 : Index := Scalar.indexCast v190
  ![v191.toNat]

def k0_chk3 (v199 : IVec S16 32) : Prop :=
  (∀ a x, ((![v199] : Fin 1 → IVec S16 32) a x).toNat < S16384.size a)
theorem k0_idx3_inb : ∀ (v199 : IVec S16 32) (k0_hw3 : k0_chk3 v199), ∀ a x, ((![v199] : Fin 1 → IVec S16 32) a x).toNat < S16384.size a := fun v199 k0_hw3 => k0_hw3

def k0_chk4 (v206 : IVec S16 32) : Prop :=
  (∀ a x, ((![v206] : Fin 1 → IVec S16 32) a x).toNat < S16384.size a)
theorem k0_idx4_inb : ∀ (v206 : IVec S16 32) (k0_hw4 : k0_chk4 v206), ∀ a x, ((![v206] : Fin 1 → IVec S16 32) a x).toNat < S16384.size a := fun v206 k0_hw4 => k0_hw4
def k0_off6 (k0_t2 : Fin k0_t2_loop.trips) (c16_i32_206 : BitVec 32) : Fin 1 → Nat :=
  let c0_i32_203 : BitVec 32 := 0#32
  let c0_i32_26 : BitVec 32 := 0#32
  let c1_i32_28 : BitVec 32 := 1#32
  let arg20 : BitVec 32 := Scf.iv c0_i32_26 c1_i32_28 k0_t2
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c16_i32_206
  let v214 : Index := Scalar.indexCast v213
  ![v214.toNat]
@[reducible] def k0_t3_loop : Scf.Loop 32 :=
  let c0_i32_36 : BitVec 32 := 0#32
  let c64_i32_37 : BitVec 32 := 64#32
  let v46 : BitVec 32 := Scalar.addi c0_i32_36 c64_i32_37
  let c1_i32_38 : BitVec 32 := 1#32
  ⟨c0_i32_36, v46, c1_i32_38⟩
def k0_off7 (k0_t3 : Fin k0_t3_loop.trips) (c32_i32 : BitVec 32) : Fin 1 → Nat :=
  let c0_i32_203 : BitVec 32 := 0#32
  let c0_i32_36 : BitVec 32 := 0#32
  let c1_i32_38 : BitVec 32 := 1#32
  let arg20 : BitVec 32 := Scf.iv c0_i32_36 c1_i32_38 k0_t3
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c32_i32
  let v191 : Index := Scalar.indexCast v190
  ![v191.toNat]

def k0_chk5 (v199 : IVec S16 32) : Prop :=
  (∀ a x, ((![v199] : Fin 1 → IVec S16 32) a x).toNat < S16384.size a)
theorem k0_idx5_inb : ∀ (v199 : IVec S16 32) (k0_hw5 : k0_chk5 v199), ∀ a x, ((![v199] : Fin 1 → IVec S16 32) a x).toNat < S16384.size a := fun v199 k0_hw5 => k0_hw5

def k0_chk6 (v206 : IVec S16 32) : Prop :=
  (∀ a x, ((![v206] : Fin 1 → IVec S16 32) a x).toNat < S16384.size a)
theorem k0_idx6_inb : ∀ (v206 : IVec S16 32) (k0_hw6 : k0_chk6 v206), ∀ a x, ((![v206] : Fin 1 → IVec S16 32) a x).toNat < S16384.size a := fun v206 k0_hw6 => k0_hw6
def k0_off8 (k0_t3 : Fin k0_t3_loop.trips) (c32_i32_206 : BitVec 32) : Fin 1 → Nat :=
  let c0_i32_203 : BitVec 32 := 0#32
  let c0_i32_36 : BitVec 32 := 0#32
  let c1_i32_38 : BitVec 32 := 1#32
  let arg20 : BitVec 32 := Scf.iv c0_i32_36 c1_i32_38 k0_t3
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c32_i32_206
  let v214 : Index := Scalar.indexCast v213
  ![v214.toNat]
@[reducible] def k0_t4_loop : Scf.Loop 32 :=
  let c0_i32_46 : BitVec 32 := 0#32
  let c64_i32_47 : BitVec 32 := 64#32
  let v55 : BitVec 32 := Scalar.addi c0_i32_46 c64_i32_47
  let c1_i32_48 : BitVec 32 := 1#32
  ⟨c0_i32_46, v55, c1_i32_48⟩
def k0_off9 (k0_t4 : Fin k0_t4_loop.trips) (c48_i32 : BitVec 32) : Fin 1 → Nat :=
  let c0_i32_203 : BitVec 32 := 0#32
  let c0_i32_46 : BitVec 32 := 0#32
  let c1_i32_48 : BitVec 32 := 1#32
  let arg20 : BitVec 32 := Scf.iv c0_i32_46 c1_i32_48 k0_t4
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c48_i32
  let v191 : Index := Scalar.indexCast v190
  ![v191.toNat]

def k0_chk7 (v199 : IVec S16 32) : Prop :=
  (∀ a x, ((![v199] : Fin 1 → IVec S16 32) a x).toNat < S16384.size a)
theorem k0_idx7_inb : ∀ (v199 : IVec S16 32) (k0_hw7 : k0_chk7 v199), ∀ a x, ((![v199] : Fin 1 → IVec S16 32) a x).toNat < S16384.size a := fun v199 k0_hw7 => k0_hw7

def k0_chk8 (v206 : IVec S16 32) : Prop :=
  (∀ a x, ((![v206] : Fin 1 → IVec S16 32) a x).toNat < S16384.size a)
theorem k0_idx8_inb : ∀ (v206 : IVec S16 32) (k0_hw8 : k0_chk8 v206), ∀ a x, ((![v206] : Fin 1 → IVec S16 32) a x).toNat < S16384.size a := fun v206 k0_hw8 => k0_hw8
def k0_off10 (k0_t4 : Fin k0_t4_loop.trips) (c48_i32_206 : BitVec 32) : Fin 1 → Nat :=
  let c0_i32_203 : BitVec 32 := 0#32
  let c0_i32_46 : BitVec 32 := 0#32
  let c1_i32_48 : BitVec 32 := 1#32
  let arg20 : BitVec 32 := Scf.iv c0_i32_46 c1_i32_48 k0_t4
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c48_i32_206
  let v214 : Index := Scalar.indexCast v213
  ![v214.toNat]
@[reducible] def k0_t5_loop : Scf.Loop 32 :=
  let c0_i32_56 : BitVec 32 := 0#32
  let c64_i32_57 : BitVec 32 := 64#32
  let v64 : BitVec 32 := Scalar.addi c0_i32_56 c64_i32_57
  let c1_i32_58 : BitVec 32 := 1#32
  ⟨c0_i32_56, v64, c1_i32_58⟩
def k0_off11 (k0_t5 : Fin k0_t5_loop.trips) (c64_i32_204 : BitVec 32) : Fin 1 → Nat :=
  let c0_i32_203 : BitVec 32 := 0#32
  let c0_i32_56 : BitVec 32 := 0#32
  let c1_i32_58 : BitVec 32 := 1#32
  let arg20 : BitVec 32 := Scf.iv c0_i32_56 c1_i32_58 k0_t5
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c64_i32_204
  let v191 : Index := Scalar.indexCast v190
  ![v191.toNat]

def k0_chk9 (v199 : IVec S16 32) : Prop :=
  (∀ a x, ((![v199] : Fin 1 → IVec S16 32) a x).toNat < S16384.size a)
theorem k0_idx9_inb : ∀ (v199 : IVec S16 32) (k0_hw9 : k0_chk9 v199), ∀ a x, ((![v199] : Fin 1 → IVec S16 32) a x).toNat < S16384.size a := fun v199 k0_hw9 => k0_hw9

def k0_chk10 (v206 : IVec S16 32) : Prop :=
  (∀ a x, ((![v206] : Fin 1 → IVec S16 32) a x).toNat < S16384.size a)
theorem k0_idx10_inb : ∀ (v206 : IVec S16 32) (k0_hw10 : k0_chk10 v206), ∀ a x, ((![v206] : Fin 1 → IVec S16 32) a x).toNat < S16384.size a := fun v206 k0_hw10 => k0_hw10
def k0_off12 (k0_t5 : Fin k0_t5_loop.trips) (c64_i32_207 : BitVec 32) : Fin 1 → Nat :=
  let c0_i32_203 : BitVec 32 := 0#32
  let c0_i32_56 : BitVec 32 := 0#32
  let c1_i32_58 : BitVec 32 := 1#32
  let arg20 : BitVec 32 := Scf.iv c0_i32_56 c1_i32_58 k0_t5
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c64_i32_207
  let v214 : Index := Scalar.indexCast v213
  ![v214.toNat]
@[reducible] def k0_t6_loop : Scf.Loop 32 :=
  let c0_i32_66 : BitVec 32 := 0#32
  let c64_i32_67 : BitVec 32 := 64#32
  let v73 : BitVec 32 := Scalar.addi c0_i32_66 c64_i32_67
  let c1_i32_68 : BitVec 32 := 1#32
  ⟨c0_i32_66, v73, c1_i32_68⟩
def k0_off13 (k0_t6 : Fin k0_t6_loop.trips) (c80_i32 : BitVec 32) : Fin 1 → Nat :=
  let c0_i32_203 : BitVec 32 := 0#32
  let c0_i32_66 : BitVec 32 := 0#32
  let c1_i32_68 : BitVec 32 := 1#32
  let arg20 : BitVec 32 := Scf.iv c0_i32_66 c1_i32_68 k0_t6
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c80_i32
  let v191 : Index := Scalar.indexCast v190
  ![v191.toNat]

def k0_chk11 (v199 : IVec S16 32) : Prop :=
  (∀ a x, ((![v199] : Fin 1 → IVec S16 32) a x).toNat < S16384.size a)
theorem k0_idx11_inb : ∀ (v199 : IVec S16 32) (k0_hw11 : k0_chk11 v199), ∀ a x, ((![v199] : Fin 1 → IVec S16 32) a x).toNat < S16384.size a := fun v199 k0_hw11 => k0_hw11

def k0_chk12 (v206 : IVec S16 32) : Prop :=
  (∀ a x, ((![v206] : Fin 1 → IVec S16 32) a x).toNat < S16384.size a)
theorem k0_idx12_inb : ∀ (v206 : IVec S16 32) (k0_hw12 : k0_chk12 v206), ∀ a x, ((![v206] : Fin 1 → IVec S16 32) a x).toNat < S16384.size a := fun v206 k0_hw12 => k0_hw12
def k0_off14 (k0_t6 : Fin k0_t6_loop.trips) (c80_i32_206 : BitVec 32) : Fin 1 → Nat :=
  let c0_i32_203 : BitVec 32 := 0#32
  let c0_i32_66 : BitVec 32 := 0#32
  let c1_i32_68 : BitVec 32 := 1#32
  let arg20 : BitVec 32 := Scf.iv c0_i32_66 c1_i32_68 k0_t6
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c80_i32_206
  let v214 : Index := Scalar.indexCast v213
  ![v214.toNat]
@[reducible] def k0_t7_loop : Scf.Loop 32 :=
  let c0_i32_76 : BitVec 32 := 0#32
  let c64_i32_77 : BitVec 32 := 64#32
  let v82 : BitVec 32 := Scalar.addi c0_i32_76 c64_i32_77
  let c1_i32_78 : BitVec 32 := 1#32
  ⟨c0_i32_76, v82, c1_i32_78⟩
def k0_off15 (k0_t7 : Fin k0_t7_loop.trips) (c96_i32 : BitVec 32) : Fin 1 → Nat :=
  let c0_i32_203 : BitVec 32 := 0#32
  let c0_i32_76 : BitVec 32 := 0#32
  let c1_i32_78 : BitVec 32 := 1#32
  let arg20 : BitVec 32 := Scf.iv c0_i32_76 c1_i32_78 k0_t7
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c96_i32
  let v191 : Index := Scalar.indexCast v190
  ![v191.toNat]

def k0_chk13 (v199 : IVec S16 32) : Prop :=
  (∀ a x, ((![v199] : Fin 1 → IVec S16 32) a x).toNat < S16384.size a)
theorem k0_idx13_inb : ∀ (v199 : IVec S16 32) (k0_hw13 : k0_chk13 v199), ∀ a x, ((![v199] : Fin 1 → IVec S16 32) a x).toNat < S16384.size a := fun v199 k0_hw13 => k0_hw13

def k0_chk14 (v206 : IVec S16 32) : Prop :=
  (∀ a x, ((![v206] : Fin 1 → IVec S16 32) a x).toNat < S16384.size a)
theorem k0_idx14_inb : ∀ (v206 : IVec S16 32) (k0_hw14 : k0_chk14 v206), ∀ a x, ((![v206] : Fin 1 → IVec S16 32) a x).toNat < S16384.size a := fun v206 k0_hw14 => k0_hw14
def k0_off16 (k0_t7 : Fin k0_t7_loop.trips) (c96_i32_206 : BitVec 32) : Fin 1 → Nat :=
  let c0_i32_203 : BitVec 32 := 0#32
  let c0_i32_76 : BitVec 32 := 0#32
  let c1_i32_78 : BitVec 32 := 1#32
  let arg20 : BitVec 32 := Scf.iv c0_i32_76 c1_i32_78 k0_t7
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c96_i32_206
  let v214 : Index := Scalar.indexCast v213
  ![v214.toNat]
@[reducible] def k0_t8_loop : Scf.Loop 32 :=
  let c0_i32_86 : BitVec 32 := 0#32
  let c64_i32_87 : BitVec 32 := 64#32
  let v91 : BitVec 32 := Scalar.addi c0_i32_86 c64_i32_87
  let c1_i32_88 : BitVec 32 := 1#32
  ⟨c0_i32_86, v91, c1_i32_88⟩
def k0_off17 (k0_t8 : Fin k0_t8_loop.trips) (c112_i32 : BitVec 32) : Fin 1 → Nat :=
  let c0_i32_203 : BitVec 32 := 0#32
  let c0_i32_86 : BitVec 32 := 0#32
  let c1_i32_88 : BitVec 32 := 1#32
  let arg20 : BitVec 32 := Scf.iv c0_i32_86 c1_i32_88 k0_t8
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c112_i32
  let v191 : Index := Scalar.indexCast v190
  ![v191.toNat]

def k0_chk15 (v199 : IVec S16 32) : Prop :=
  (∀ a x, ((![v199] : Fin 1 → IVec S16 32) a x).toNat < S16384.size a)
theorem k0_idx15_inb : ∀ (v199 : IVec S16 32) (k0_hw15 : k0_chk15 v199), ∀ a x, ((![v199] : Fin 1 → IVec S16 32) a x).toNat < S16384.size a := fun v199 k0_hw15 => k0_hw15

def k0_chk16 (v206 : IVec S16 32) : Prop :=
  (∀ a x, ((![v206] : Fin 1 → IVec S16 32) a x).toNat < S16384.size a)
theorem k0_idx16_inb : ∀ (v206 : IVec S16 32) (k0_hw16 : k0_chk16 v206), ∀ a x, ((![v206] : Fin 1 → IVec S16 32) a x).toNat < S16384.size a := fun v206 k0_hw16 => k0_hw16
def k0_off18 (k0_t8 : Fin k0_t8_loop.trips) (c112_i32_206 : BitVec 32) : Fin 1 → Nat :=
  let c0_i32_203 : BitVec 32 := 0#32
  let c0_i32_86 : BitVec 32 := 0#32
  let c1_i32_88 : BitVec 32 := 1#32
  let arg20 : BitVec 32 := Scf.iv c0_i32_86 c1_i32_88 k0_t8
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c112_i32_206
  let v214 : Index := Scalar.indexCast v213
  ![v214.toNat]
def k0_off19 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_1 : BitVec 32 := 0#32
  let c2_i32_2 : BitVec 32 := 2#32
  let v9 : BitVec 32 := Scalar.muli c0_i32_1 c2_i32_2
  let v10 : BitVec 32 := Scalar.addi v9 c0_i32_3
  let c16384_i32 : BitVec 32 := 16384#32
  let v92 : BitVec 32 := Scalar.muli v10 c16384_i32
  let v93 : BitVec 32 := Scalar.addi v2 v92
  ![v93.toNat]
def k0_cond3 : BitVec 1 :=
  let c0_i32_1 : BitVec 32 := 0#32
  let c2_i32_90 : BitVec 32 := 2#32
  let v96 : BitVec 32 := Scalar.muli c0_i32_1 c2_i32_90
  let c1_i32_91 : BitVec 32 := 1#32
  let v97 : BitVec 32 := Scalar.addi v96 c1_i32_91
  let c1_i32_92 : BitVec 32 := 1#32
  let v98 : BitVec 32 := Scalar.addi v97 c1_i32_92
  let c2_i32_93 : BitVec 32 := 2#32
  let v99 : BitVec 1 := Scalar.cmpi .slt v98 c2_i32_93
  let v100 : BitVec 32 := Scalar.extui v99
  let c0_i32_94 : BitVec 32 := 0#32
  let v101 : BitVec 1 := Scalar.cmpi .ne v100 c0_i32_94
  v101

def k0_off20 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_1 : BitVec 32 := 0#32
  let c2_i32_90 : BitVec 32 := 2#32
  let v96 : BitVec 32 := Scalar.muli c0_i32_1 c2_i32_90
  let c1_i32_91 : BitVec 32 := 1#32
  let v97 : BitVec 32 := Scalar.addi v96 c1_i32_91
  let c1_i32_202 : BitVec 32 := 1#32
  let v187 : BitVec 32 := Scalar.addi v97 c1_i32_202
  let c16384_i32_203 : BitVec 32 := 16384#32
  let v188 : BitVec 32 := Scalar.muli v187 c16384_i32_203
  let v189 : BitVec 32 := Scalar.addi v2 v188
  ![v189.toNat]
@[reducible] def k0_t9_loop : Scf.Loop 32 :=
  let c0_i32_107 : BitVec 32 := 0#32
  let c64_i32_108 : BitVec 32 := 64#32
  let v115 : BitVec 32 := Scalar.addi c0_i32_107 c64_i32_108
  let c1_i32_109 : BitVec 32 := 1#32
  ⟨c0_i32_107, v115, c1_i32_109⟩
def k0_off21 (k0_t9 : Fin k0_t9_loop.trips) (c0_i32_204 : BitVec 32) : Fin 1 → Nat :=
  let c0_i32_203 : BitVec 32 := 0#32
  let c0_i32_107 : BitVec 32 := 0#32
  let c1_i32_109 : BitVec 32 := 1#32
  let arg20 : BitVec 32 := Scf.iv c0_i32_107 c1_i32_109 k0_t9
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c0_i32_204
  let v191 : Index := Scalar.indexCast v190
  ![v191.toNat]

def k0_chk17 (v199 : IVec S16 32) : Prop :=
  (∀ a x, ((![v199] : Fin 1 → IVec S16 32) a x).toNat < S16384.size a)
theorem k0_idx17_inb : ∀ (v199 : IVec S16 32) (k0_hw17 : k0_chk17 v199), ∀ a x, ((![v199] : Fin 1 → IVec S16 32) a x).toNat < S16384.size a := fun v199 k0_hw17 => k0_hw17

def k0_chk18 (v206 : IVec S16 32) : Prop :=
  (∀ a x, ((![v206] : Fin 1 → IVec S16 32) a x).toNat < S16384.size a)
theorem k0_idx18_inb : ∀ (v206 : IVec S16 32) (k0_hw18 : k0_chk18 v206), ∀ a x, ((![v206] : Fin 1 → IVec S16 32) a x).toNat < S16384.size a := fun v206 k0_hw18 => k0_hw18
def k0_off22 (k0_t9 : Fin k0_t9_loop.trips) (c0_i32_207 : BitVec 32) : Fin 1 → Nat :=
  let c0_i32_203 : BitVec 32 := 0#32
  let c0_i32_107 : BitVec 32 := 0#32
  let c1_i32_109 : BitVec 32 := 1#32
  let arg20 : BitVec 32 := Scf.iv c0_i32_107 c1_i32_109 k0_t9
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c0_i32_207
  let v214 : Index := Scalar.indexCast v213
  ![v214.toNat]
@[reducible] def k0_t10_loop : Scf.Loop 32 :=
  let c0_i32_119 : BitVec 32 := 0#32
  let c64_i32_120 : BitVec 32 := 64#32
  let v124 : BitVec 32 := Scalar.addi c0_i32_119 c64_i32_120
  let c1_i32_121 : BitVec 32 := 1#32
  ⟨c0_i32_119, v124, c1_i32_121⟩
def k0_off23 (k0_t10 : Fin k0_t10_loop.trips) (c16_i32 : BitVec 32) : Fin 1 → Nat :=
  let c0_i32_203 : BitVec 32 := 0#32
  let c0_i32_119 : BitVec 32 := 0#32
  let c1_i32_121 : BitVec 32 := 1#32
  let arg20 : BitVec 32 := Scf.iv c0_i32_119 c1_i32_121 k0_t10
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c16_i32
  let v191 : Index := Scalar.indexCast v190
  ![v191.toNat]

def k0_chk19 (v199 : IVec S16 32) : Prop :=
  (∀ a x, ((![v199] : Fin 1 → IVec S16 32) a x).toNat < S16384.size a)
theorem k0_idx19_inb : ∀ (v199 : IVec S16 32) (k0_hw19 : k0_chk19 v199), ∀ a x, ((![v199] : Fin 1 → IVec S16 32) a x).toNat < S16384.size a := fun v199 k0_hw19 => k0_hw19

def k0_chk20 (v206 : IVec S16 32) : Prop :=
  (∀ a x, ((![v206] : Fin 1 → IVec S16 32) a x).toNat < S16384.size a)
theorem k0_idx20_inb : ∀ (v206 : IVec S16 32) (k0_hw20 : k0_chk20 v206), ∀ a x, ((![v206] : Fin 1 → IVec S16 32) a x).toNat < S16384.size a := fun v206 k0_hw20 => k0_hw20
def k0_off24 (k0_t10 : Fin k0_t10_loop.trips) (c16_i32_206 : BitVec 32) : Fin 1 → Nat :=
  let c0_i32_203 : BitVec 32 := 0#32
  let c0_i32_119 : BitVec 32 := 0#32
  let c1_i32_121 : BitVec 32 := 1#32
  let arg20 : BitVec 32 := Scf.iv c0_i32_119 c1_i32_121 k0_t10
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c16_i32_206
  let v214 : Index := Scalar.indexCast v213
  ![v214.toNat]
@[reducible] def k0_t11_loop : Scf.Loop 32 :=
  let c0_i32_131 : BitVec 32 := 0#32
  let c64_i32_132 : BitVec 32 := 64#32
  let v133 : BitVec 32 := Scalar.addi c0_i32_131 c64_i32_132
  let c1_i32_133 : BitVec 32 := 1#32
  ⟨c0_i32_131, v133, c1_i32_133⟩
def k0_off25 (k0_t11 : Fin k0_t11_loop.trips) (c32_i32 : BitVec 32) : Fin 1 → Nat :=
  let c0_i32_203 : BitVec 32 := 0#32
  let c0_i32_131 : BitVec 32 := 0#32
  let c1_i32_133 : BitVec 32 := 1#32
  let arg20 : BitVec 32 := Scf.iv c0_i32_131 c1_i32_133 k0_t11
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c32_i32
  let v191 : Index := Scalar.indexCast v190
  ![v191.toNat]

def k0_chk21 (v199 : IVec S16 32) : Prop :=
  (∀ a x, ((![v199] : Fin 1 → IVec S16 32) a x).toNat < S16384.size a)
theorem k0_idx21_inb : ∀ (v199 : IVec S16 32) (k0_hw21 : k0_chk21 v199), ∀ a x, ((![v199] : Fin 1 → IVec S16 32) a x).toNat < S16384.size a := fun v199 k0_hw21 => k0_hw21

def k0_chk22 (v206 : IVec S16 32) : Prop :=
  (∀ a x, ((![v206] : Fin 1 → IVec S16 32) a x).toNat < S16384.size a)
theorem k0_idx22_inb : ∀ (v206 : IVec S16 32) (k0_hw22 : k0_chk22 v206), ∀ a x, ((![v206] : Fin 1 → IVec S16 32) a x).toNat < S16384.size a := fun v206 k0_hw22 => k0_hw22
def k0_off26 (k0_t11 : Fin k0_t11_loop.trips) (c32_i32_206 : BitVec 32) : Fin 1 → Nat :=
  let c0_i32_203 : BitVec 32 := 0#32
  let c0_i32_131 : BitVec 32 := 0#32
  let c1_i32_133 : BitVec 32 := 1#32
  let arg20 : BitVec 32 := Scf.iv c0_i32_131 c1_i32_133 k0_t11
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c32_i32_206
  let v214 : Index := Scalar.indexCast v213
  ![v214.toNat]
@[reducible] def k0_t12_loop : Scf.Loop 32 :=
  let c0_i32_143 : BitVec 32 := 0#32
  let c64_i32_144 : BitVec 32 := 64#32
  let v142 : BitVec 32 := Scalar.addi c0_i32_143 c64_i32_144
  let c1_i32_145 : BitVec 32 := 1#32
  ⟨c0_i32_143, v142, c1_i32_145⟩
def k0_off27 (k0_t12 : Fin k0_t12_loop.trips) (c48_i32 : BitVec 32) : Fin 1 → Nat :=
  let c0_i32_203 : BitVec 32 := 0#32
  let c0_i32_143 : BitVec 32 := 0#32
  let c1_i32_145 : BitVec 32 := 1#32
  let arg20 : BitVec 32 := Scf.iv c0_i32_143 c1_i32_145 k0_t12
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c48_i32
  let v191 : Index := Scalar.indexCast v190
  ![v191.toNat]

def k0_chk23 (v199 : IVec S16 32) : Prop :=
  (∀ a x, ((![v199] : Fin 1 → IVec S16 32) a x).toNat < S16384.size a)
theorem k0_idx23_inb : ∀ (v199 : IVec S16 32) (k0_hw23 : k0_chk23 v199), ∀ a x, ((![v199] : Fin 1 → IVec S16 32) a x).toNat < S16384.size a := fun v199 k0_hw23 => k0_hw23

def k0_chk24 (v206 : IVec S16 32) : Prop :=
  (∀ a x, ((![v206] : Fin 1 → IVec S16 32) a x).toNat < S16384.size a)
theorem k0_idx24_inb : ∀ (v206 : IVec S16 32) (k0_hw24 : k0_chk24 v206), ∀ a x, ((![v206] : Fin 1 → IVec S16 32) a x).toNat < S16384.size a := fun v206 k0_hw24 => k0_hw24
def k0_off28 (k0_t12 : Fin k0_t12_loop.trips) (c48_i32_206 : BitVec 32) : Fin 1 → Nat :=
  let c0_i32_203 : BitVec 32 := 0#32
  let c0_i32_143 : BitVec 32 := 0#32
  let c1_i32_145 : BitVec 32 := 1#32
  let arg20 : BitVec 32 := Scf.iv c0_i32_143 c1_i32_145 k0_t12
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c48_i32_206
  let v214 : Index := Scalar.indexCast v213
  ![v214.toNat]
@[reducible] def k0_t13_loop : Scf.Loop 32 :=
  let c0_i32_155 : BitVec 32 := 0#32
  let c64_i32_156 : BitVec 32 := 64#32
  let v151 : BitVec 32 := Scalar.addi c0_i32_155 c64_i32_156
  let c1_i32_157 : BitVec 32 := 1#32
  ⟨c0_i32_155, v151, c1_i32_157⟩
def k0_off29 (k0_t13 : Fin k0_t13_loop.trips) (c64_i32_204 : BitVec 32) : Fin 1 → Nat :=
  let c0_i32_203 : BitVec 32 := 0#32
  let c0_i32_155 : BitVec 32 := 0#32
  let c1_i32_157 : BitVec 32 := 1#32
  let arg20 : BitVec 32 := Scf.iv c0_i32_155 c1_i32_157 k0_t13
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c64_i32_204
  let v191 : Index := Scalar.indexCast v190
  ![v191.toNat]

def k0_chk25 (v199 : IVec S16 32) : Prop :=
  (∀ a x, ((![v199] : Fin 1 → IVec S16 32) a x).toNat < S16384.size a)
theorem k0_idx25_inb : ∀ (v199 : IVec S16 32) (k0_hw25 : k0_chk25 v199), ∀ a x, ((![v199] : Fin 1 → IVec S16 32) a x).toNat < S16384.size a := fun v199 k0_hw25 => k0_hw25

def k0_chk26 (v206 : IVec S16 32) : Prop :=
  (∀ a x, ((![v206] : Fin 1 → IVec S16 32) a x).toNat < S16384.size a)
theorem k0_idx26_inb : ∀ (v206 : IVec S16 32) (k0_hw26 : k0_chk26 v206), ∀ a x, ((![v206] : Fin 1 → IVec S16 32) a x).toNat < S16384.size a := fun v206 k0_hw26 => k0_hw26
def k0_off30 (k0_t13 : Fin k0_t13_loop.trips) (c64_i32_207 : BitVec 32) : Fin 1 → Nat :=
  let c0_i32_203 : BitVec 32 := 0#32
  let c0_i32_155 : BitVec 32 := 0#32
  let c1_i32_157 : BitVec 32 := 1#32
  let arg20 : BitVec 32 := Scf.iv c0_i32_155 c1_i32_157 k0_t13
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c64_i32_207
  let v214 : Index := Scalar.indexCast v213
  ![v214.toNat]
@[reducible] def k0_t14_loop : Scf.Loop 32 :=
  let c0_i32_167 : BitVec 32 := 0#32
  let c64_i32_168 : BitVec 32 := 64#32
  let v160 : BitVec 32 := Scalar.addi c0_i32_167 c64_i32_168
  let c1_i32_169 : BitVec 32 := 1#32
  ⟨c0_i32_167, v160, c1_i32_169⟩
def k0_off31 (k0_t14 : Fin k0_t14_loop.trips) (c80_i32 : BitVec 32) : Fin 1 → Nat :=
  let c0_i32_203 : BitVec 32 := 0#32
  let c0_i32_167 : BitVec 32 := 0#32
  let c1_i32_169 : BitVec 32 := 1#32
  let arg20 : BitVec 32 := Scf.iv c0_i32_167 c1_i32_169 k0_t14
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c80_i32
  let v191 : Index := Scalar.indexCast v190
  ![v191.toNat]

def k0_chk27 (v199 : IVec S16 32) : Prop :=
  (∀ a x, ((![v199] : Fin 1 → IVec S16 32) a x).toNat < S16384.size a)
theorem k0_idx27_inb : ∀ (v199 : IVec S16 32) (k0_hw27 : k0_chk27 v199), ∀ a x, ((![v199] : Fin 1 → IVec S16 32) a x).toNat < S16384.size a := fun v199 k0_hw27 => k0_hw27

def k0_chk28 (v206 : IVec S16 32) : Prop :=
  (∀ a x, ((![v206] : Fin 1 → IVec S16 32) a x).toNat < S16384.size a)
theorem k0_idx28_inb : ∀ (v206 : IVec S16 32) (k0_hw28 : k0_chk28 v206), ∀ a x, ((![v206] : Fin 1 → IVec S16 32) a x).toNat < S16384.size a := fun v206 k0_hw28 => k0_hw28
def k0_off32 (k0_t14 : Fin k0_t14_loop.trips) (c80_i32_206 : BitVec 32) : Fin 1 → Nat :=
  let c0_i32_203 : BitVec 32 := 0#32
  let c0_i32_167 : BitVec 32 := 0#32
  let c1_i32_169 : BitVec 32 := 1#32
  let arg20 : BitVec 32 := Scf.iv c0_i32_167 c1_i32_169 k0_t14
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c80_i32_206
  let v214 : Index := Scalar.indexCast v213
  ![v214.toNat]
@[reducible] def k0_t15_loop : Scf.Loop 32 :=
  let c0_i32_179 : BitVec 32 := 0#32
  let c64_i32_180 : BitVec 32 := 64#32
  let v169 : BitVec 32 := Scalar.addi c0_i32_179 c64_i32_180
  let c1_i32_181 : BitVec 32 := 1#32
  ⟨c0_i32_179, v169, c1_i32_181⟩
def k0_off33 (k0_t15 : Fin k0_t15_loop.trips) (c96_i32 : BitVec 32) : Fin 1 → Nat :=
  let c0_i32_203 : BitVec 32 := 0#32
  let c0_i32_179 : BitVec 32 := 0#32
  let c1_i32_181 : BitVec 32 := 1#32
  let arg20 : BitVec 32 := Scf.iv c0_i32_179 c1_i32_181 k0_t15
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c96_i32
  let v191 : Index := Scalar.indexCast v190
  ![v191.toNat]

def k0_chk29 (v199 : IVec S16 32) : Prop :=
  (∀ a x, ((![v199] : Fin 1 → IVec S16 32) a x).toNat < S16384.size a)
theorem k0_idx29_inb : ∀ (v199 : IVec S16 32) (k0_hw29 : k0_chk29 v199), ∀ a x, ((![v199] : Fin 1 → IVec S16 32) a x).toNat < S16384.size a := fun v199 k0_hw29 => k0_hw29

def k0_chk30 (v206 : IVec S16 32) : Prop :=
  (∀ a x, ((![v206] : Fin 1 → IVec S16 32) a x).toNat < S16384.size a)
theorem k0_idx30_inb : ∀ (v206 : IVec S16 32) (k0_hw30 : k0_chk30 v206), ∀ a x, ((![v206] : Fin 1 → IVec S16 32) a x).toNat < S16384.size a := fun v206 k0_hw30 => k0_hw30
def k0_off34 (k0_t15 : Fin k0_t15_loop.trips) (c96_i32_206 : BitVec 32) : Fin 1 → Nat :=
  let c0_i32_203 : BitVec 32 := 0#32
  let c0_i32_179 : BitVec 32 := 0#32
  let c1_i32_181 : BitVec 32 := 1#32
  let arg20 : BitVec 32 := Scf.iv c0_i32_179 c1_i32_181 k0_t15
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c96_i32_206
  let v214 : Index := Scalar.indexCast v213
  ![v214.toNat]
@[reducible] def k0_t16_loop : Scf.Loop 32 :=
  let c0_i32_191 : BitVec 32 := 0#32
  let c64_i32_192 : BitVec 32 := 64#32
  let v178 : BitVec 32 := Scalar.addi c0_i32_191 c64_i32_192
  let c1_i32_193 : BitVec 32 := 1#32
  ⟨c0_i32_191, v178, c1_i32_193⟩
def k0_off35 (k0_t16 : Fin k0_t16_loop.trips) (c112_i32 : BitVec 32) : Fin 1 → Nat :=
  let c0_i32_203 : BitVec 32 := 0#32
  let c0_i32_191 : BitVec 32 := 0#32
  let c1_i32_193 : BitVec 32 := 1#32
  let arg20 : BitVec 32 := Scf.iv c0_i32_191 c1_i32_193 k0_t16
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v190 : BitVec 32 := Scalar.addi v189 c112_i32
  let v191 : Index := Scalar.indexCast v190
  ![v191.toNat]

def k0_chk31 (v199 : IVec S16 32) : Prop :=
  (∀ a x, ((![v199] : Fin 1 → IVec S16 32) a x).toNat < S16384.size a)
theorem k0_idx31_inb : ∀ (v199 : IVec S16 32) (k0_hw31 : k0_chk31 v199), ∀ a x, ((![v199] : Fin 1 → IVec S16 32) a x).toNat < S16384.size a := fun v199 k0_hw31 => k0_hw31

def k0_chk32 (v206 : IVec S16 32) : Prop :=
  (∀ a x, ((![v206] : Fin 1 → IVec S16 32) a x).toNat < S16384.size a)
theorem k0_idx32_inb : ∀ (v206 : IVec S16 32) (k0_hw32 : k0_chk32 v206), ∀ a x, ((![v206] : Fin 1 → IVec S16 32) a x).toNat < S16384.size a := fun v206 k0_hw32 => k0_hw32
def k0_off36 (k0_t16 : Fin k0_t16_loop.trips) (c112_i32_206 : BitVec 32) : Fin 1 → Nat :=
  let c0_i32_203 : BitVec 32 := 0#32
  let c0_i32_191 : BitVec 32 := 0#32
  let c1_i32_193 : BitVec 32 := 1#32
  let arg20 : BitVec 32 := Scf.iv c0_i32_191 c1_i32_193 k0_t16
  let c1_i32_202 : BitVec 32 := 1#32
  let v187 : BitVec 32 := Scalar.muli arg20 c1_i32_202
  let v188 : BitVec 32 := Scalar.addi c0_i32_203 v187
  let c256_i32 : BitVec 32 := 256#32
  let v189 : BitVec 32 := Scalar.muli v188 c256_i32
  let v213 : BitVec 32 := Scalar.addi v189 c112_i32_206
  let v214 : Index := Scalar.indexCast v213
  ![v214.toNat]
abbrev grid1 : Pipeline.Grid := ⟨1, ![14], ![false]⟩

def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x256 : Shape := ⟨2, ![32768, 256]⟩
abbrev S24x128 : Shape := ⟨2, ![24, 128]⟩
abbrev S256 : Shape := ⟨1, ![256]⟩
abbrev S_ : Shape := ⟨0, ![]⟩
abbrev S1x128 : Shape := ⟨2, ![1, 128]⟩
abbrev S128 : Shape := ⟨1, ![128]⟩
abbrev S128x1 : Shape := ⟨2, ![128, 1]⟩
abbrev S32768x128 : Shape := ⟨2, ![32768, 128]⟩

abbrev nBuf : Space → Nat
  | .hbm => 92
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S24x128, .f32⟩
  | .hbm, ⟨2, _⟩ => ⟨S256, .i32⟩
  | .hbm, ⟨3, _⟩ => ⟨S256, .i32⟩
  | .hbm, ⟨4, _⟩ => ⟨S_, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S24x128, .f32⟩
  | .hbm, ⟨9, _⟩ => ⟨S_, .i32⟩
  | .hbm, ⟨10, _⟩ => ⟨S_, .i32⟩
  | .hbm, ⟨11, _⟩ => ⟨S32768x256, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S256, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x128, .f32⟩
  | .hbm, ⟨34, _⟩ => ⟨S128, .f32⟩
  | .hbm, ⟨35, _⟩ => ⟨S128, .i32⟩
  | .hbm, ⟨36, _⟩ => ⟨S128, .i32⟩
  | .hbm, ⟨37, _⟩ => ⟨S128, .f32⟩
  | .hbm, ⟨38, _⟩ => ⟨S128, .f32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S32768x128, .f32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S128x1, .i32⟩
  | .hbm, ⟨56, _⟩ => ⟨S32768x128, .f32⟩
  | .hbm, ⟨57, _⟩ => ⟨S1x128, .f32⟩
  | .hbm, ⟨58, _⟩ => ⟨S32768x128, .f32⟩
  | .hbm, ⟨59, _⟩ => ⟨S32768x128, .f32⟩
  | .hbm, ⟨60, _⟩ => ⟨S1x128, .f32⟩
  | .hbm, ⟨61, _⟩ => ⟨S32768x128, .f32⟩
  | .hbm, ⟨62, _⟩ => ⟨S32768x128, .f32⟩
  | .hbm, ⟨63, _⟩ => ⟨S32768x128, .f32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S32768x256, .f32⟩
  | .hbm, ⟨73, _⟩ => ⟨S128, .f32⟩
  | .hbm, ⟨74, _⟩ => ⟨S1x128, .f32⟩
  | .hbm, ⟨75, _⟩ => ⟨S32768x128, .f32⟩
  | .hbm, ⟨76, _⟩ => ⟨S32768x128, .f32⟩
  | .hbm, ⟨77, _⟩ => ⟨S1x128, .f32⟩
  | .hbm, ⟨78, _⟩ => ⟨S32768x128, .f32⟩
  | .hbm, ⟨79, _⟩ => ⟨S32768x128, .f32⟩
  | .hbm, ⟨80, _⟩ => ⟨S32768x128, .f32⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S128, .i32⟩
  | .hbm, ⟨86, _⟩ => ⟨S128, .i32⟩
  | .hbm, ⟨87, _⟩ => ⟨S128, .i32⟩
  | .hbm, ⟨88, _⟩ => ⟨S128x1, .i32⟩
  | .hbm, ⟨89, _⟩ => ⟨S32768x256, .f32⟩
  | .hbm, ⟨90, _⟩ => ⟨S_, .i32⟩
  | .hbm, ⟨91, _⟩ => ⟨S_, .i32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_while0c_c_6 : Ref sig .tc := ⟨.hbm, 12, rfl⟩
abbrev main_while0c_v1 : Ref sig .tc := ⟨.hbm, 13, rfl⟩
abbrev main_while0b_c_6 : Ref sig .tc := ⟨.hbm, 14, rfl⟩
abbrev main_while0b_v1 : Ref sig .tc := ⟨.hbm, 15, rfl⟩
abbrev main_while0b_c_7 : Ref sig .tc := ⟨.hbm, 16, rfl⟩
abbrev main_while0b_v2 : Ref sig .tc := ⟨.hbm, 17, rfl⟩
abbrev main_while0b_v3 : Ref sig .tc := ⟨.hbm, 18, rfl⟩
abbrev main_while0b_v4 : Ref sig .tc := ⟨.hbm, 19, rfl⟩
abbrev main_while0b_c_8 : Ref sig .tc := ⟨.hbm, 20, rfl⟩
abbrev main_while0b_v5 : Ref sig .tc := ⟨.hbm, 21, rfl⟩
abbrev main_while0b_c_9 : Ref sig .tc := ⟨.hbm, 22, rfl⟩
abbrev main_while0b_v6 : Ref sig .tc := ⟨.hbm, 23, rfl⟩
abbrev main_while0b_v7 : Ref sig .tc := ⟨.hbm, 24, rfl⟩
abbrev main_while0b_c_10 : Ref sig .tc := ⟨.hbm, 25, rfl⟩
abbrev main_while0b_c_11 : Ref sig .tc := ⟨.hbm, 26, rfl⟩
abbrev main_while0b_v8 : Ref sig .tc := ⟨.hbm, 27, rfl⟩
abbrev main_while0b_c_12 : Ref sig .tc := ⟨.hbm, 28, rfl⟩
abbrev main_while0b_c_13 : Ref sig .tc := ⟨.hbm, 29, rfl⟩
abbrev main_while0b_v9 : Ref sig .tc := ⟨.hbm, 30, rfl⟩
abbrev main_while0b_c_14 : Ref sig .tc := ⟨.hbm, 31, rfl⟩
abbrev main_while0b_v10 : Ref sig .tc := ⟨.hbm, 32, rfl⟩
abbrev main_while0b_v11 : Ref sig .tc := ⟨.hbm, 33, rfl⟩
abbrev main_while0b_v12 : Ref sig .tc := ⟨.hbm, 34, rfl⟩
abbrev main_while0b_v13 : Ref sig .tc := ⟨.hbm, 35, rfl⟩
abbrev main_while0b_v14 : Ref sig .tc := ⟨.hbm, 36, rfl⟩
abbrev main_while0b_v15 : Ref sig .tc := ⟨.hbm, 37, rfl⟩
abbrev main_while0b_v16 : Ref sig .tc := ⟨.hbm, 38, rfl⟩
abbrev main_while0b_c_15 : Ref sig .tc := ⟨.hbm, 39, rfl⟩
abbrev main_while0b_v17 : Ref sig .tc := ⟨.hbm, 40, rfl⟩
abbrev main_while0b_v18 : Ref sig .tc := ⟨.hbm, 41, rfl⟩
abbrev main_while0b_c_16 : Ref sig .tc := ⟨.hbm, 42, rfl⟩
abbrev main_while0b_v19 : Ref sig .tc := ⟨.hbm, 43, rfl⟩
abbrev main_while0b_v20 : Ref sig .tc := ⟨.hbm, 44, rfl⟩
abbrev main_while0b_v21 : Ref sig .tc := ⟨.hbm, 45, rfl⟩
abbrev main_while0b_v22 : Ref sig .tc := ⟨.hbm, 46, rfl⟩
abbrev main_while0b_v23 : Ref sig .tc := ⟨.hbm, 47, rfl⟩
abbrev main_while0b_c_17 : Ref sig .tc := ⟨.hbm, 48, rfl⟩
abbrev main_while0b_v24 : Ref sig .tc := ⟨.hbm, 49, rfl⟩
abbrev main_while0b_v25 : Ref sig .tc := ⟨.hbm, 50, rfl⟩
abbrev main_while0b_c_18 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_v37 : Ref sig .tc := ⟨.hbm, 63, rfl⟩
abbrev main_while0b_c_19 : Ref sig .tc := ⟨.hbm, 64, rfl⟩
abbrev main_while0b_v38 : Ref sig .tc := ⟨.hbm, 65, rfl⟩
abbrev main_while0b_v39 : Ref sig .tc := ⟨.hbm, 66, rfl⟩
abbrev main_while0b_c_20 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_c_21 : Ref sig .tc := ⟨.hbm, 81, rfl⟩
abbrev main_while0b_v53 : Ref sig .tc := ⟨.hbm, 82, rfl⟩
abbrev main_while0b_v54 : Ref sig .tc := ⟨.hbm, 83, rfl⟩
abbrev main_while0b_c_22 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_c_23 : Ref sig .tc := ⟨.hbm, 90, rfl⟩
abbrev main_while0b_v60 : Ref sig .tc := ⟨.hbm, 91, rfl⟩

abbrev nD : Nat := 1
abbrev τ : Topo := Topo.v7x

variable {F : FTy → Type} [FloatOps F]

abbrev main_while0_count : Scf.Loop 32 := ⟨0#32, 24#32, 1#32⟩
-- ==== Proof.Row.lean ====
/-
  One row of the SparseCore kernel's arithmetic, and the loop that applies it to one pair of sixteen-lane column groups.

  The kernel keeps a chunk of 64 rows of 256 features in a flat tile buffer of 16384 words. For each of the eight pairs
  of column groups (`g` and `g + 8`) it runs a loop over the 64 rows: it loads the two groups, loads each again with
  neighbouring lanes exchanged, and stores both output groups. `rotated` is the whole function, `upTo` is the output
  buffer part of the way through, and `wp_pairLoop` is the loop, stated once for every pair and either buffer.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.K

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The function -/

/-- Element `n` of a flat chunk, and column `n` of a row (out of range: element 0). -/
def at16384 (n : ℕ) : S16384.Idx := fun | 0 => ⟨n % 16384, Nat.mod_lt _ (by decide)⟩
def col256 (n : ℕ) : S256.Idx := fun | 0 => ⟨n % 256, Nat.mod_lt _ (by decide)⟩

/-- The first half-step at flat position `n`: the element and its neighbour in the pair `n`, `n xor 1`. -/
def innerAt (ca sa : Vec F S256 .f32) (X : ℕ → F .f32) (n : ℕ) : F .f32 :=
  FloatOps.addf (FloatOps.mulf (ca (col256 n)) (X n)) (FloatOps.mulf (sa (col256 n)) (X (n ^^^ 1)))

/-- Both half-steps at flat position `n`. -/
def rotated (ca sa cb sb : Vec F S256 .f32) (X : ℕ → F .f32) (n : ℕ) : F .f32 :=
  FloatOps.addf (FloatOps.mulf (cb (col256 n)) (innerAt ca sa X n)) (FloatOps.mulf (sb (col256 n)) (innerAt ca sa X (n ^^^ 128)))

/-- Whether position `n` has been written when pair `g` has done `t` rows. -/
def Done (g t n : ℕ) : Prop := n % 128 / 16 < g ∨ (n % 128 / 16 = g ∧ n / 256 < t)

/-- The output chunk `f` agrees with `G` at every position written so far. -/
def UpTo (G : ℕ → F .f32) (g t : ℕ) (f : Vec F S16384 .f32) : Prop := ∀ n, n < 16384 → Done g t n → f (at16384 n) = G n

theorem UpTo.next {G : ℕ → F .f32} {g : ℕ} {f : Vec F S16384 .f32} (h : UpTo G g 64 f) : UpTo G (g + 1) 0 f := by
  intro n hn hd
  refine h n hn ?_
  unfold Done at hd ⊢
  omega

theorem UpTo.start (G : ℕ → F .f32) (f : Vec F S16384 .f32) : UpTo G 0 0 f := by
  intro n _ hd
  unfold Done at hd
  omega

theorem UpTo.all {G : ℕ → F .f32} {f : Vec F S16384 .f32} (h : UpTo G 8 0 f) (x : S16384.Idx) : f x = G (x 0).val := by
  have hx : at16384 (x 0).val = x := by
    funext a
    obtain rfl : a = 0 := Subsingleton.elim _ _
    exact Fin.ext (Nat.mod_eq_of_lt (x 0).isLt)
  have := h (x 0).val (x 0).isLt (Or.inl (by omega))
  rwa [hx] at this

/-! ## The trip -/

/-- The thread on tile `i`. -/
abbrev tileProc (i : grid0.Coords) : Proc τ := .scVector ((i 0).castLE hcore0) ((i 1).castLE hsub0)

/-- One row of one pair of groups, as the kernel's loops run it: the offsets `o`, `p` of the two loads, `q`, `r` of the two
    stores, the index vectors `ia`, `ib` of the two exchanged loads, and the eight coefficient vectors. -/
def trip (i : grid0.Coords) (xb ob : Memref sig .scVector .vmem S16384 .f32)
    {o p q r : Fin 1 → ℕ} (ho : ∀ a, o a + S16.size a ≤ S16384.size a) (hp : ∀ a, p a + S16.size a ≤ S16384.size a)
    (hq : ∀ a, q a + S16.size a ≤ S16384.size a) (hr : ∀ a, r a + S16.size a ≤ S16384.size a)
    (ia ib : IVec S16 32) {A B : Prop} (dA : Decidable A) (dB : Decidable B)
    (hA : A → ∀ a x, ((![ia] : Fin 1 → IVec S16 32) a x).toNat < S16384.size a)
    (hB : B → ∀ a x, ((![ib] : Fin 1 → IVec S16 32) a x).toNat < S16384.size a)
    (cag sag cah sah cbg sbg cbh sbh : Vec F S16 .f32) :
    Prog (TpuEff nD τ sig (Elt F) Λ₀ (tileProc i)) PUnit := do
  let xg : Vec F S16 .f32 ← Prog.lift (.load xb (Rect.unit (s := S16384) o S16.size ho).toLoadRect (View.loadsAt_vmem h_S16))
  let xh : Vec F S16 .f32 ← Prog.lift (.load xb (Rect.unit (s := S16384) p S16.size hp).toLoadRect (View.loadsAt_vmem h_S16))
  have a : A := (← Prog.lift (TpuEff.assume A dA)).down
  let yg : Vec F S16 .f32 ← SparseCore.vectorLoadIdx xb ![ia] (hA a) (View.loads_vmem h_S16384)
  have b : B := (← Prog.lift (TpuEff.assume B dB)).down
  let yh : Vec F S16 .f32 ← SparseCore.vectorLoadIdx xb ![ib] (hB b) (View.loads_vmem h_S16384)
  let _u : Vec F S16 .f32 ← Prog.lift (.load ob (Rect.unit (s := S16384) q S16.size hq).toLoadRect (View.loadsAt_vmem h_S16))
  Prog.lift (.store ob (Rect.unit (s := S16384) q S16.size hq)
    (addf (mulf cbg (addf (mulf cag xg) (mulf sag yg))) (mulf sbg (addf (mulf cah xh) (mulf sah yh)))) Finset.univ (View.stores_vmem_bits_univ h_S16 rfl) (.inl rfl))
  let _v : Vec F S16 .f32 ← Prog.lift (.load ob (Rect.unit (s := S16384) r S16.size hr).toLoadRect (View.loadsAt_vmem h_S16))
  Prog.lift (.store ob (Rect.unit (s := S16384) r S16.size hr)
    (addf (mulf cbh (addf (mulf cah xh) (mulf sah yh))) (mulf sbh (addf (mulf cag xg) (mulf sag yg)))) Finset.univ (View.stores_vmem_bits_univ h_S16 rfl) (.inl rfl))
  pure ⟨⟩

abbrev ΛP : Labels := Pipeline.Sig Λ₀ (Fin 1) fun p => (pcfgs (F := F) p).Adm
abbrev 𝒱₀ : Variants := Variants.none

/-! The resource algebra: the handshakes' rounds library, the TensorCore pipeline's, the transfers' counters. -/

abbrev UH : Type := URounds (GSem nD τ sig) ℕ
abbrev UP : Type := URounds (GSem nD τ sig) Unit
abbrev UU : Type := UH × (UP × Counters)

local notation "𝕄" => MT nD τ sig (SparseCore.Cfg.HIx 1) (Elt F) ℕ UU ℕ

section Trip

variable (d : Dev nD) (i : grid0.Coords)

/-- The two groups of sixteen results of a trip, as the kernel computes them. -/
def outLo (cag sag cah sah cbg sbg xg xh yg yh : Vec F S16 .f32) : Vec F S16 .f32 :=
  addf (mulf cbg (addf (mulf cag xg) (mulf sag yg))) (mulf sbg (addf (mulf cah xh) (mulf sah yh)))
def outHi (cag sag cah sah cbh sbh xg xh yg yh : Vec F S16 .f32) : Vec F S16 .f32 :=
  addf (mulf cbh (addf (mulf cah xh) (mulf sah yh))) (mulf sbh (addf (mulf cag xg) (mulf sag yg)))

theorem wp_trip {xb ob : Memref sig .scVector .vmem S16384 .f32}
    {o p q r : Fin 1 → ℕ} (ho : ∀ a, o a + S16.size a ≤ S16384.size a) (hp : ∀ a, p a + S16.size a ≤ S16384.size a)
    (hq : ∀ a, q a + S16.size a ≤ S16384.size a) (hr : ∀ a, r a + S16.size a ≤ S16384.size a)
    (ia ib : IVec S16 32) {A B : Prop} (dA : Decidable A) (dB : Decidable B)
    (hA : A → ∀ a x, ((![ia] : Fin 1 → IVec S16 32) a x).toNat < S16384.size a)
    (hB : B → ∀ a x, ((![ib] : Fin 1 → IVec S16 32) a x).toNat < S16384.size a) (a : A) (b : B)
    (cag sag cah sah cbg sbg cbh sbh : Vec F S16 .f32)
    (fx : Buf (Elt F) (xb.view.loc ((d, tileProc i) : Thread nD τ))) (fo : Buf (Elt F) (ob.view.loc ((d, tileProc i) : Thread nD τ))) :
    iprop((xb.view.loc ((d, tileProc i) : Thread nD τ) ↦{fullShare} fx) ∗ (ob.view.loc ((d, tileProc i) : Thread nD τ) ↦{fullShare} fo))
      ⊢ wp (M := 𝕄) frame (wpE (defs₀ (F := F)) 𝒱₀ ((d, tileProc i) : Thread nD τ) none) Set.univ
          (trip i xb ob ho hp hq hr ia ib dA dB hA hB cag sag cah sah cbg sbg cbh sbh)
          fun _ => iprop((xb.view.loc ((d, tileProc i) : Thread nD τ) ↦{fullShare} fx)
            ∗ (ob.view.loc ((d, tileProc i) : Thread nD τ) ↦{fullShare}
                ob.view.writes (Elt F) fo
                  [⟨Rect.unit (s := S16384) r S16.size hr, outHi cag sag cah sah cbh sbh ((xb.access (Rect.unit (s := S16384) o S16.size ho)).read (Elt F) fx)
                      ((xb.access (Rect.unit (s := S16384) p S16.size hp)).read (Elt F) fx)
                      (loadIdx ((xb.access (.whole S16384)).read (Elt F) fx) ![ia] (hA a)) (loadIdx ((xb.access (.whole S16384)).read (Elt F) fx) ![ib] (hB b))⟩,
                   ⟨Rect.unit (s := S16384) q S16.size hq, outLo cag sag cah sah cbg sbg ((xb.access (Rect.unit (s := S16384) o S16.size ho)).read (Elt F) fx)
                      ((xb.access (Rect.unit (s := S16384) p S16.size hp)).read (Elt F) fx)
                      (loadIdx ((xb.access (.whole S16384)).read (Elt F) fx) ![ia] (hA a)) (loadIdx ((xb.access (.whole S16384)).read (Elt F) fx) ![ib] (hB b))⟩])) := by
  unfold trip
  simp only [Prog.lift, Prog.bind_op, Prog.bind_ret, Prog.pure_eq_ret]
  iintro ⟨Hx, Ho⟩
  iapply (wp_load_rect (defs := defs₀ (F := F)) 𝒱₀ ((d, tileProc i) : Thread nD τ) none Set.univ (m := xb) (r := Rect.unit (s := S16384) o S16.size ho) (S := Finset.univ) (Finset.subset_univ _)) $$ Hx
  iintro Hx
  iapply (wp_load_rect (defs := defs₀ (F := F)) 𝒱₀ ((d, tileProc i) : Thread nD τ) none Set.univ (m := xb) (r := Rect.unit (s := S16384) p S16.size hp) (S := Finset.univ) (Finset.subset_univ _)) $$ Hx
  iintro Hx
  iapply (wp_assume (defs := defs₀ (F := F)) 𝒱₀ ((d, tileProc i) : Thread nD τ) none Set.univ a)
  iapply (SparseCore.wp_vectorLoadIdx (defs := defs₀ (F := F)) 𝒱₀ ((d, tileProc i) : Thread nD τ) none Set.univ (base := xb) (S := Finset.univ) (Finset.subset_univ _)) $$ Hx
  iintro Hx
  iapply (wp_assume (defs := defs₀ (F := F)) 𝒱₀ ((d, tileProc i) : Thread nD τ) none Set.univ b)
  iapply (SparseCore.wp_vectorLoadIdx (defs := defs₀ (F := F)) 𝒱₀ ((d, tileProc i) : Thread nD τ) none Set.univ (base := xb) (S := Finset.univ) (Finset.subset_univ _)) $$ Hx
  iintro Hx
  iapply (wp_load_rect (defs := defs₀ (F := F)) 𝒱₀ ((d, tileProc i) : Thread nD τ) none Set.univ (m := ob) (r := Rect.unit (s := S16384) q S16.size hq) (S := Finset.univ) (Finset.subset_univ _)) $$ Ho
  iintro Ho
  iapply (wp_store (defs := defs₀ (F := F)) 𝒱₀ ((d, tileProc i) : Thread nD τ) none Set.univ (m := ob) (r := Rect.unit (s := S16384) q S16.size hq) (S := Finset.univ) (Finset.subset_univ _)) $$ Ho
  iintro Ho
  iapply (wp_load_rect (defs := defs₀ (F := F)) 𝒱₀ ((d, tileProc i) : Thread nD τ) none Set.univ (m := ob) (r := Rect.unit (s := S16384) r S16.size hr) (S := Finset.univ) (Finset.subset_univ _)) $$ Ho
  iintro Ho
  iapply (wp_store (defs := defs₀ (F := F)) 𝒱₀ ((d, tileProc i) : Thread nD τ) none Set.univ (m := ob) (r := Rect.unit (s := S16384) r S16.size hr) (S := Finset.univ) (Finset.subset_univ _)) $$ Ho
  iintro Ho
  rw [wp_ret]; imodintro
  isplitl [Hx]
  · iexact Hx
  iexact Ho

end Trip

end Cert.Proof.K

end
-- ==== Proof.Loop.lean ====
/-
  The loop over the 64 rows of a chunk, for one pair of sixteen-lane column groups: `wp_pairLoop`, stated once for every pair
  `g` and for either chunk buffer. What a trip stores is read off the buffers (`stored`), and the invariant is `UpTo`.
-/
module

public import proofs.«01_k».proof.Proof.Row

@[expose] public section

noncomputable section

namespace Cert.Proof.K

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

/-! ## Exclusive or of small numbers -/

/-- Exclusive or works digit by digit in base `2 ^ k`. -/
theorem xor_split (k a b c e : ℕ) (hb : b < 2 ^ k) (he : e < 2 ^ k) :
    (2 ^ k * a + b) ^^^ (2 ^ k * c + e) = 2 ^ k * (a ^^^ c) + (b ^^^ e) := by
  refine Nat.eq_of_testBit_eq fun j => ?_
  rw [Nat.testBit_xor, Nat.testBit_two_pow_mul_add _ hb, Nat.testBit_two_pow_mul_add _ he, Nat.testBit_two_pow_mul_add _ (Nat.xor_lt_two_pow hb he)]
  split <;> simp [Nat.testBit_xor]

theorem xor_one_low (a j : ℕ) (hj : j < 16) : (16 * a + j) ^^^ 1 = 16 * a + (j ^^^ 1) := by
  have h := xor_split 4 a j 0 1 (by simpa using hj) (by decide)
  simpa using h

theorem xor_128_lo (t c : ℕ) (hc : c < 128) : (256 * t + c) ^^^ 128 = 256 * t + 128 + c := by
  have h := xor_split 7 (2 * t) c 1 0 (by simpa using hc) (by decide)
  have h2 := xor_split 1 t 0 0 1 (by decide) (by decide)
  norm_num at h h2
  rw [h2] at h
  rw [show 256 * t + c = 128 * (2 * t) + c by omega, h]
  omega

theorem xor_128_hi (t c : ℕ) (hc : c < 128) : (256 * t + 128 + c) ^^^ 128 = 256 * t + c := by
  rw [← xor_128_lo t c hc, Nat.xor_assoc, Nat.xor_self, Nat.xor_zero]

theorem xor_one_lt (j : ℕ) (hj : j < 16) : j ^^^ 1 < 16 := by
  have : j ^^^ 1 < 2 ^ 4 := Nat.xor_lt_two_pow hj (by decide)
  simpa using this

/-! ## One trip's values -/

theorem col256_congr {n k : ℕ} (h : n % 256 = k % 256) : col256 n = col256 k := by
  funext a
  obtain rfl : a = 0 := Subsingleton.elim _ _
  exact Fin.ext h

theorem at16384_val (n : ℕ) (h : n < 16384) : ((at16384 n) 0).val = n := Nat.mod_eq_of_lt h

theorem at16384_of (x : S16384.Idx) (n : ℕ) (h : (x 0).val = n) : x = at16384 n := by
  subst h
  funext a
  obtain rfl : a = 0 := Subsingleton.elim _ _
  exact Fin.ext (Nat.mod_eq_of_lt (x 0).isLt).symm

/-- Lane `n` of sixteen. -/
def at16 (n : ℕ) (h : n < 16) : S16.Idx := fun | 0 => ⟨n, h⟩

/-- What a trip at row `t` of pair `g` computes from the four groups it loads, at lane `x`: `rotated` at that lane's place in
    the low group, -/
theorem outLo_eq (ca sa cb sb : Vec F S256 .f32) (X : ℕ → F .f32) (g t : ℕ) (hg : g < 8)
    {cag sag cah sah cbg sbg xg xh yg yh : Vec F S16 .f32}
    (h1 : ∀ x, cag x = ca (col256 (16 * g + (x 0).val))) (h2 : ∀ x, sag x = sa (col256 (16 * g + (x 0).val)))
    (h3 : ∀ x, cah x = ca (col256 (16 * g + 128 + (x 0).val))) (h4 : ∀ x, sah x = sa (col256 (16 * g + 128 + (x 0).val)))
    (h5 : ∀ x, cbg x = cb (col256 (16 * g + (x 0).val))) (h6 : ∀ x, sbg x = sb (col256 (16 * g + (x 0).val)))
    (hxg : ∀ x, xg x = X (256 * t + 16 * g + (x 0).val)) (hxh : ∀ x, xh x = X (256 * t + 16 * g + 128 + (x 0).val))
    (hyg : ∀ x, yg x = X (256 * t + 16 * g + ((x 0).val ^^^ 1))) (hyh : ∀ x, yh x = X (256 * t + 16 * g + 128 + ((x 0).val ^^^ 1)))
    (x : S16.Idx) : outLo cag sag cah sah cbg sbg xg xh yg yh x = rotated ca sa cb sb X (256 * t + 16 * g + (x 0).val) := by
  have hx : (x 0).val < 16 := (x 0).isLt
  have e1 : (256 * t + 16 * g + (x 0).val) ^^^ 1 = 256 * t + 16 * g + ((x 0).val ^^^ 1) := by
    have := xor_one_low (16 * t + g) (x 0).val hx
    rw [show 256 * t + 16 * g + (x 0).val = 16 * (16 * t + g) + (x 0).val by omega, this]; omega
  have e2 : (256 * t + 16 * g + (x 0).val) ^^^ 128 = 256 * t + 16 * g + 128 + (x 0).val := by
    have := xor_128_lo t (16 * g + (x 0).val) (by omega)
    rw [show 256 * t + 16 * g + (x 0).val = 256 * t + (16 * g + (x 0).val) by omega, this]; omega
  have e3 : (256 * t + 16 * g + 128 + (x 0).val) ^^^ 1 = 256 * t + 16 * g + 128 + ((x 0).val ^^^ 1) := by
    have := xor_one_low (16 * t + g + 8) (x 0).val hx
    rw [show 256 * t + 16 * g + 128 + (x 0).val = 16 * (16 * t + g + 8) + (x 0).val by omega, this]; omega
  have c1 : col256 (256 * t + 16 * g + (x 0).val) = col256 (16 * g + (x 0).val) := col256_congr (by omega)
  have c2 : col256 (256 * t + 16 * g + 128 + (x 0).val) = col256 (16 * g + 128 + (x 0).val) := col256_congr (by omega)
  simp only [outLo, rotated, innerAt, addf, mulf, h1, h2, h3, h4, h5, h6, hxg, hxh, hyg, hyh, e1, e2, e3, c1, c2]

/-- and in the high group. -/
theorem outHi_eq (ca sa cb sb : Vec F S256 .f32) (X : ℕ → F .f32) (g t : ℕ) (hg : g < 8)
    {cag sag cah sah cbh sbh xg xh yg yh : Vec F S16 .f32}
    (h1 : ∀ x, cag x = ca (col256 (16 * g + (x 0).val))) (h2 : ∀ x, sag x = sa (col256 (16 * g + (x 0).val)))
    (h3 : ∀ x, cah x = ca (col256 (16 * g + 128 + (x 0).val))) (h4 : ∀ x, sah x = sa (col256 (16 * g + 128 + (x 0).val)))
    (h5 : ∀ x, cbh x = cb (col256 (16 * g + 128 + (x 0).val))) (h6 : ∀ x, sbh x = sb (col256 (16 * g + 128 + (x 0).val)))
    (hxg : ∀ x, xg x = X (256 * t + 16 * g + (x 0).val)) (hxh : ∀ x, xh x = X (256 * t + 16 * g + 128 + (x 0).val))
    (hyg : ∀ x, yg x = X (256 * t + 16 * g + ((x 0).val ^^^ 1))) (hyh : ∀ x, yh x = X (256 * t + 16 * g + 128 + ((x 0).val ^^^ 1)))
    (x : S16.Idx) : outHi cag sag cah sah cbh sbh xg xh yg yh x = rotated ca sa cb sb X (256 * t + 16 * g + 128 + (x 0).val) := by
  have hx : (x 0).val < 16 := (x 0).isLt
  have e1 : (256 * t + 16 * g + (x 0).val) ^^^ 1 = 256 * t + 16 * g + ((x 0).val ^^^ 1) := by
    have := xor_one_low (16 * t + g) (x 0).val hx
    rw [show 256 * t + 16 * g + (x 0).val = 16 * (16 * t + g) + (x 0).val by omega, this]; omega
  have e2 : (256 * t + 16 * g + 128 + (x 0).val) ^^^ 128 = 256 * t + 16 * g + (x 0).val := by
    have := xor_128_hi t (16 * g + (x 0).val) (by omega)
    rw [show 256 * t + 16 * g + 128 + (x 0).val = 256 * t + 128 + (16 * g + (x 0).val) by omega, this]; omega
  have e3 : (256 * t + 16 * g + 128 + (x 0).val) ^^^ 1 = 256 * t + 16 * g + 128 + ((x 0).val ^^^ 1) := by
    have := xor_one_low (16 * t + g + 8) (x 0).val hx
    rw [show 256 * t + 16 * g + 128 + (x 0).val = 16 * (16 * t + g + 8) + (x 0).val by omega, this]; omega
  have c1 : col256 (256 * t + 16 * g + (x 0).val) = col256 (16 * g + (x 0).val) := col256_congr (by omega)
  have c2 : col256 (256 * t + 16 * g + 128 + (x 0).val) = col256 (16 * g + 128 + (x 0).val) := col256_congr (by omega)
  simp only [outHi, rotated, innerAt, addf, mulf, h1, h2, h3, h4, h5, h6, hxg, hxh, hyg, hyh, e1, e2, e3, c1, c2]

/-! ## Reading the buffers -/

section Read

variable {m : Memref sig .scVector .vmem S16384 .f32}

theorem read_group (fx : m.view.ty.Contents (Elt F)) {o : Fin 1 → ℕ} (ho : ∀ a, o a + S16.size a ≤ S16384.size a) (x : S16.Idx) :
    (m.access (Rect.unit (s := S16384) o S16.size ho)).read (Elt F) fx x = m.view.read (Elt F) fx (at16384 (o 0 + (x 0).val)) := by
  show m.view.read (Elt F) fx ((Rect.unit (s := S16384) o S16.size ho).emb x) = _
  congr 1
  refine at16384_of _ _ ?_
  show o 0 + 1 * (x 0).val = _
  omega

theorem read_exchanged (fx : m.view.ty.Contents (Elt F)) (ia : IVec S16 32)
    (h : ∀ a x, ((![ia] : Fin 1 → IVec S16 32) a x).toNat < S16384.size a) (x : S16.Idx) :
    loadIdx ((m.access (.whole S16384)).read (Elt F) fx) ![ia] h x = m.view.read (Elt F) fx (at16384 (ia x).toNat) := by
  show m.view.read (Elt F) fx ((Rect.whole S16384).emb (idxAt ![ia] h x)) = _
  congr 1
  refine at16384_of _ _ ?_
  show 0 + 1 * (ia x).toNat = _
  omega

/-- After the two stores of row `t` of pair `g`, one more row is done. -/
theorem UpTo.step {G : ℕ → F .f32} {g t : ℕ} (hg : g < 8) (ht : t < 64) (fo : m.view.ty.Contents (Elt F))
    (h : UpTo G g t (m.view.read (Elt F) fo)) {q r : Fin 1 → ℕ} (hq : ∀ a, q a + S16.size a ≤ S16384.size a)
    (hr : ∀ a, r a + S16.size a ≤ S16384.size a) (eq : q 0 = 256 * t + 16 * g) (er : r 0 = 256 * t + 16 * g + 128)
    (lo hi : Vec F S16 .f32) (hlo : ∀ x, lo x = G (256 * t + 16 * g + (x 0).val)) (hhi : ∀ x, hi x = G (256 * t + 16 * g + 128 + (x 0).val)) :
    UpTo G g (t + 1) (m.view.read (Elt F) (m.view.writes (Elt F) fo
      [⟨Rect.unit (s := S16384) r S16.size hr, hi⟩, ⟨Rect.unit (s := S16384) q S16.size hq, lo⟩])) := by
  intro n hn hd
  have hv := at16384_val n hn
  by_cases hin : 256 * t + 16 * g + 128 ≤ n ∧ n < 256 * t + 16 * g + 128 + 16
  · rw [View.read_writes_cons_hit_of_coords m.view fo (Rect.unit (s := S16384) r S16.size hr) hi _ (at16 (n - (256 * t + 16 * g + 128)) (by omega)) (at16384 n) ?_]
    · rw [hhi]; congr 1; show _ + (n - _) = n; omega
    · intro a
      obtain rfl : a = 0 := Subsingleton.elim _ _
      show _ = r 0 + 1 * (n - _)
      omega
  rw [View.read_writes_cons_miss_of_axis m.view fo _ _ (at16384 n) 0 (256 * t + 16 * g + 128) 16 er rfl rfl (by rw [hv]; omega)]
  by_cases hin' : 256 * t + 16 * g ≤ n ∧ n < 256 * t + 16 * g + 16
  · rw [View.read_writes_cons_hit_of_coords m.view fo (Rect.unit (s := S16384) q S16.size hq) lo _ (at16 (n - (256 * t + 16 * g)) (by omega)) (at16384 n) ?_]
    · rw [hlo]; congr 1; show _ + (n - _) = n; omega
    · intro a
      obtain rfl : a = 0 := Subsingleton.elim _ _
      show _ = q 0 + 1 * (n - _)
      omega
  rw [View.read_writes_cons_miss_of_axis m.view fo _ _ (at16384 n) 0 (256 * t + 16 * g) 16 eq rfl rfl (by rw [hv]; omega)]
  refine h n hn ?_
  unfold Done at hd ⊢
  omega

end Read

/-! ## The loop -/

section PairLoop

variable (d : Dev nD) (i : grid0.Coords)

theorem wp_pairLoop {xb ob : Memref sig .scVector .vmem S16384 .f32} (ca sa cb sb : Vec F S256 .f32) (g : ℕ) (hg : g < 8)
    (fx : Buf (Elt F) (xb.view.loc ((d, tileProc i) : Thread nD τ)))
    (l : Scf.Loop 32) (hok : l.OK) (hl : l.trips = 64)
    (o p q r : Fin l.trips → Fin 1 → ℕ) (ho : ∀ t a, o t a + S16.size a ≤ S16384.size a) (hp : ∀ t a, p t a + S16.size a ≤ S16384.size a)
    (hq : ∀ t a, q t a + S16.size a ≤ S16384.size a) (hr : ∀ t a, r t a + S16.size a ≤ S16384.size a)
    (ia ib : Fin l.trips → IVec S16 32) (A B : IVec S16 32 → Prop) (dA : ∀ v, Decidable (A v)) (dB : ∀ v, Decidable (B v))
    (hA : ∀ v, A v → ∀ a x, ((![v] : Fin 1 → IVec S16 32) a x).toNat < S16384.size a)
    (hB : ∀ v, B v → ∀ a x, ((![v] : Fin 1 → IVec S16 32) a x).toNat < S16384.size a)
    {cag sag cah sah cbg sbg cbh sbh : Vec F S16 .f32}
    (body : Fin l.trips → Unit → Prog (TpuEff nD τ sig (Elt F) Λ₀ (tileProc i)) Unit)
    (hbody : ∀ t u, body t u = trip i xb ob (ho t) (hp t) (hq t) (hr t) (ia t) (ib t) (dA (ia t)) (dB (ib t)) (hA (ia t)) (hB (ib t))
      cag sag cah sah cbg sbg cbh sbh)
    (eo : ∀ t, o t 0 = 256 * t.val + 16 * g) (ep : ∀ t, p t 0 = 256 * t.val + 16 * g + 128)
    (eq : ∀ t, q t 0 = 256 * t.val + 16 * g) (er : ∀ t, r t 0 = 256 * t.val + 16 * g + 128)
    (eia : ∀ t x, (ia t x).toNat = 256 * t.val + 16 * g + ((x 0).val ^^^ 1))
    (eib : ∀ t x, (ib t x).toNat = 256 * t.val + 16 * g + 128 + ((x 0).val ^^^ 1))
    (hcA : ∀ v, (∀ a x, ((![v] : Fin 1 → IVec S16 32) a x).toNat < S16384.size a) → A v)
    (hcB : ∀ v, (∀ a x, ((![v] : Fin 1 → IVec S16 32) a x).toNat < S16384.size a) → B v)
    (h1 : ∀ x, cag x = ca (col256 (16 * g + (x 0).val))) (h2 : ∀ x, sag x = sa (col256 (16 * g + (x 0).val)))
    (h3 : ∀ x, cah x = ca (col256 (16 * g + 128 + (x 0).val))) (h4 : ∀ x, sah x = sa (col256 (16 * g + 128 + (x 0).val)))
    (h5 : ∀ x, cbg x = cb (col256 (16 * g + (x 0).val))) (h6 : ∀ x, sbg x = sb (col256 (16 * g + (x 0).val)))
    (h7 : ∀ x, cbh x = cb (col256 (16 * g + 128 + (x 0).val))) (h8 : ∀ x, sbh x = sb (col256 (16 * g + 128 + (x 0).val)))
    {β : Type} {kk : Unit → Prog (TpuEff nD τ sig (Elt F) Λ₀ (tileProc i)) β} {Q : β → sProp 𝕄} :
    iprop((xb.view.loc ((d, tileProc i) : Thread nD τ) ↦{fullShare} fx)
        ∗ ∃ fo, ⌜UpTo (rotated ca sa cb sb fun n => xb.view.read (Elt F) fx (at16384 n)) g 0 (ob.view.read (Elt F) fo)⌝
            ∗ ob.view.loc ((d, tileProc i) : Thread nD τ) ↦{fullShare} fo)
      ⊢ iprop((iprop((xb.view.loc ((d, tileProc i) : Thread nD τ) ↦{fullShare} fx)
          ∗ ∃ fo, ⌜UpTo (rotated ca sa cb sb fun n => xb.view.read (Elt F) fx (at16384 n)) (g + 1) 0 (ob.view.read (Elt F) fo)⌝
              ∗ ob.view.loc ((d, tileProc i) : Thread nD τ) ↦{fullShare} fo)
            -∗ wp (M := 𝕄) frame (wpE (defs₀ (F := F)) 𝒱₀ ((d, tileProc i) : Thread nD τ) none) Set.univ (kk ()) Q)
          -∗ wp (M := 𝕄) frame (wpE (defs₀ (F := F)) 𝒱₀ ((d, tileProc i) : Thread nD τ) none) Set.univ
              (Scf.Loop.for l hok () body >>= kk) Q) := by
  have hstep : ∀ (t : Fin l.trips) (u : Unit),
      iprop((xb.view.loc ((d, tileProc i) : Thread nD τ) ↦{fullShare} fx)
        ∗ ∃ fo, ⌜UpTo (rotated ca sa cb sb fun n => xb.view.read (Elt F) fx (at16384 n)) g t.val (ob.view.read (Elt F) fo)⌝
            ∗ ob.view.loc ((d, tileProc i) : Thread nD τ) ↦{fullShare} fo)
      ⊢ wp (M := 𝕄) frame (wpE (defs₀ (F := F)) 𝒱₀ ((d, tileProc i) : Thread nD τ) none) Set.univ (body t u) fun _ =>
        iprop((xb.view.loc ((d, tileProc i) : Thread nD τ) ↦{fullShare} fx)
          ∗ ∃ fo, ⌜UpTo (rotated ca sa cb sb fun n => xb.view.read (Elt F) fx (at16384 n)) g (t.val + 1) (ob.view.read (Elt F) fo)⌝
            ∗ ob.view.loc ((d, tileProc i) : Thread nD τ) ↦{fullShare} fo) := by
    intro t u
    have ht : t.val < 64 := hl ▸ t.isLt
    have bnd : ∀ (v : IVec S16 32) (k : ℕ), k ≤ 128 → (∀ x, (v x).toNat = 256 * t.val + 16 * g + k + ((x 0).val ^^^ 1)) →
        ∀ a x, ((![v] : Fin 1 → IVec S16 32) a x).toNat < S16384.size a := by
      intro v k hk hv a x
      obtain rfl : a = 0 := Subsingleton.elim _ _
      have := xor_one_lt (x 0).val (x 0).isLt
      show (v x).toNat < 16384
      rw [hv]; omega
    have a := hcA (ia t) (bnd _ 0 (by decide) (eia t))
    have b := hcB (ib t) (bnd _ 128 (by decide) (eib t))
    rw [hbody]
    iintro ⟨Hx, %fo, %hfo, Ho⟩
    iapply (wp_wand (M := 𝕄) frame) $$ [Hx Ho]
    · iapply (wp_trip d i (ho t) (hp t) (hq t) (hr t) (ia t) (ib t) (dA _) (dB _) (hA _) (hB _) a b cag sag cah sah cbg sbg cbh sbh fx fo)
      isplitl [Hx] <;> iassumption
    iintro %_ ⟨Hx, Ho⟩
    isplitl [Hx]; · iexact Hx
    iexists _; isplitr [Ho]; swap; · iexact Ho
    ipureintro
    have hxg := fun x => (read_group (m := xb) fx (ho t) x).trans (by rw [eo t])
    have hxh := fun x => (read_group (m := xb) fx (hp t) x).trans (by rw [ep t])
    have hyg := fun x => (read_exchanged (m := xb) fx (ia t) (hA _ a) x).trans (by rw [eia t])
    have hyh := fun x => (read_exchanged (m := xb) fx (ib t) (hB _ b) x).trans (by rw [eib t])
    exact UpTo.step hg ht fo hfo (hq t) (hr t) (eq t) (er t) _ _
      (outLo_eq ca sa cb sb (fun n => xb.view.read (Elt F) fx (at16384 n)) g t.val hg h1 h2 h3 h4 h5 h6 hxg hxh hyg hyh)
      (outHi_eq ca sa cb sb (fun n => xb.view.read (Elt F) fx (at16384 n)) g t.val hg h1 h2 h3 h4 h7 h8 hxg hxh hyg hyh)
  iintro H HK
  iapply (Scf.wp_for_bind (M := 𝕄) frame (wpE (defs₀ (F := F)) 𝒱₀ ((d, tileProc i) : Thread nD τ) none) Set.univ l.lb l.ub l.st hok () body
    (fun t _ => iprop((xb.view.loc ((d, tileProc i) : Thread nD τ) ↦{fullShare} fx)
        ∗ ∃ fo, ⌜UpTo (rotated ca sa cb sb fun n => xb.view.read (Elt F) fx (at16384 n)) g t (ob.view.read (Elt F) fo)⌝
            ∗ ob.view.loc ((d, tileProc i) : Thread nD τ) ↦{fullShare} fo)) hstep) $$ H
  iintro %acc ⟨Hx, %fo, %hfo, Ho⟩
  iapply HK
  isplitl [Hx]; · iexact Hx
  iexists fo; isplitr [Ho]; swap; · iexact Ho
  ipureintro
  have hl' : Scf.trips l.lb l.ub l.st = 64 := hl
  rw [hl'] at hfo
  exact hfo.next

end PairLoop

/-! ## The loop as the kernel spells it

  Every loop of the kernel computes its offsets and index vectors by the same words from the trip and a constant. -/

/-- The word the kernel computes at trip `t` for the place `k` of a row, -/
def rowWord (t k : ℕ) : BitVec 32 :=
  Scalar.addi (Scalar.muli (Scalar.addi 0#32 (Scalar.muli (Scf.iv 0#32 1#32 t) 1#32)) 256#32) (BitVec.ofNat 32 k)
/-- the offset it is used as, -/
def offAt (t k : ℕ) : Fin 1 → ℕ := ![(Scalar.indexCast (rowWord t k) : Index).toNat]
/-- and the sixteen indices from there with neighbours exchanged. -/
def lanes (t k : ℕ) : IVec S16 32 := addi (broadcast S16 (rowWord t k)) (k0_pay7)

theorem rowWord_toNat {t k : ℕ} (ht : t < 64) (hk : k < 256) : (rowWord t k).toNat = 256 * t + k := by
  show ((0#32 + (0#32 + BitVec.ofNat 32 t * 1#32) * 1#32) * 256#32 + BitVec.ofNat 32 k).toNat = _
  simp only [BitVec.toNat_add, BitVec.toNat_mul, BitVec.toNat_ofNat]
  omega

theorem offAt_zero {t k : ℕ} (ht : t < 64) (hk : k < 256) : offAt t k 0 = 256 * t + k := rowWord_toNat ht hk

theorem offAt_inb {t k : ℕ} (ht : t < 64) (hk : k ≤ 240) (a : Fin 1) : offAt t k a + S16.size a ≤ S16384.size a := by
  obtain rfl : a = 0 := Subsingleton.elim _ _
  have h := offAt_zero ht (k := k) (by omega)
  show offAt t k 0 + 16 ≤ 16384
  omega

theorem exchange_toNat : ∀ j : Fin 16, (k0_pay7 (at16 j.val j.isLt)).toNat = j.val ^^^ 1 := by decide +kernel

theorem lanes_toNat {t k : ℕ} (ht : t < 64) (hk : k ≤ 240) (x : S16.Idx) : (lanes t k x).toNat = 256 * t + k + ((x 0).val ^^^ 1) := by
  have e : x = at16 (x 0).val (x 0).isLt := by
    funext a
    obtain rfl : a = 0 := Subsingleton.elim _ _
    rfl
  have h := exchange_toNat (x 0)
  rw [← e] at h
  have h2 := xor_one_lt (x 0).val (x 0).isLt
  show (rowWord t k + k0_pay7 x).toNat = _
  rw [BitVec.toNat_add, rowWord_toNat ht (by omega), h]
  omega

/-- That every lane of an index vector is inside a chunk: what each loop's side conditions say. -/
abbrev InChunk (v : IVec S16 32) : Prop := ∀ a x, ((![v] : Fin 1 → IVec S16 32) a x).toNat < S16384.size a

/-- Sixteen of a table's words from `k` on. -/
def Group (T : Vec F S256 .f32) (k : ℕ) (v : Vec F S16 .f32) : Prop := ∀ x, v x = T (col256 (k + (x 0).val))

theorem group_load {m : Memref sig .scVector .vmem S256 .f32} (f : m.view.ty.Contents (Elt F)) (k : ℕ) (h : ∀ a, (![k] : Fin 1 → ℕ) a + S16.size a ≤ S256.size a) :
    Group (m.view.read (Elt F) f) k (m.view.readAt (Elt F) (Rect.unit (s := S256) ![k] S16.size h).toLoadRect f) := by
  intro x
  have h0 : k + 16 ≤ 256 := h 0
  have hx : (x 0).val < 16 := (x 0).isLt
  show m.view.read (Elt F) f ((Rect.unit (s := S256) ![k] S16.size h).emb x) = _
  congr 1
  funext a
  obtain rfl : a = 0 := Subsingleton.elim _ _
  refine Fin.ext ?_
  show k + 1 * (x 0).val = (k + (x 0).val) % 256
  omega

section Pair

variable (d : Dev nD) (i : grid0.Coords)

theorem wp_pair {xb ob : Memref sig .scVector .vmem S16384 .f32} (ca sa cb sb : Vec F S256 .f32) (g : ℕ) (hg : g < 8)
    (fx : Buf (Elt F) (xb.view.loc ((d, tileProc i) : Thread nD τ)))
    {l : Scf.Loop 32} {hok : l.OK} (hl : l.trips = 64) (A B : IVec S16 32 → Prop) (dA : ∀ v, Decidable (A v)) (dB : ∀ v, Decidable (B v))
    (hA : A = InChunk) (hB : B = InChunk)
    {cag sag cah sah cbg sbg cbh sbh : Vec F S16 .f32}
    (h1 : Group ca (16 * g) cag) (h2 : Group sa (16 * g) sag) (h3 : Group ca (16 * g + 128) cah) (h4 : Group sa (16 * g + 128) sah)
    (h5 : Group cb (16 * g) cbg) (h6 : Group sb (16 * g) sbg) (h7 : Group cb (16 * g + 128) cbh) (h8 : Group sb (16 * g + 128) sbh)
    {body : Fin l.trips → Unit → Prog (TpuEff nD τ sig (Elt F) Λ₀ (tileProc i)) Unit}
    (hbody : ∀ (t : Fin l.trips) u, body t u = trip i xb ob (offAt_inb (t := t.val) (k := 16 * g) (hl ▸ t.isLt) (by omega)) (offAt_inb (t := t.val) (k := 16 * g + 128) (hl ▸ t.isLt) (by omega))
      (offAt_inb (t := t.val) (k := 16 * g) (hl ▸ t.isLt) (by omega)) (offAt_inb (t := t.val) (k := 16 * g + 128) (hl ▸ t.isLt) (by omega))
      (lanes t.val (16 * g)) (lanes t.val (16 * g + 128)) (dA _) (dB _) (fun h => (hA ▸ h : InChunk _)) (fun h => (hB ▸ h : InChunk _))
      cag sag cah sah cbg sbg cbh sbh)
    {β : Type} {kk : Unit → Prog (TpuEff nD τ sig (Elt F) Λ₀ (tileProc i)) β} {Q : β → sProp 𝕄} :
    iprop((xb.view.loc ((d, tileProc i) : Thread nD τ) ↦{fullShare} fx)
        ∗ ∃ fo, ⌜UpTo (rotated ca sa cb sb fun n => xb.view.read (Elt F) fx (at16384 n)) g 0 (ob.view.read (Elt F) fo)⌝
            ∗ ob.view.loc ((d, tileProc i) : Thread nD τ) ↦{fullShare} fo)
      ⊢ iprop((iprop((xb.view.loc ((d, tileProc i) : Thread nD τ) ↦{fullShare} fx)
          ∗ ∃ fo, ⌜UpTo (rotated ca sa cb sb fun n => xb.view.read (Elt F) fx (at16384 n)) (g + 1) 0 (ob.view.read (Elt F) fo)⌝
              ∗ ob.view.loc ((d, tileProc i) : Thread nD τ) ↦{fullShare} fo)
            -∗ wp (M := 𝕄) frame (wpE (defs₀ (F := F)) 𝒱₀ ((d, tileProc i) : Thread nD τ) none) Set.univ (kk ()) Q)
          -∗ wp (M := 𝕄) frame (wpE (defs₀ (F := F)) 𝒱₀ ((d, tileProc i) : Thread nD τ) none) Set.univ
              (Scf.Loop.for l hok () body >>= kk) Q) := by
  have ht : ∀ t : Fin l.trips, t.val < 64 := fun t => hl ▸ t.isLt
  exact wp_pairLoop d i ca sa cb sb g hg fx l hok hl (fun t => offAt t.val (16 * g)) (fun t => offAt t.val (16 * g + 128))
    (fun t => offAt t.val (16 * g)) (fun t => offAt t.val (16 * g + 128))
    (fun t => offAt_inb (ht t) (by omega)) (fun t => offAt_inb (ht t) (by omega)) (fun t => offAt_inb (ht t) (by omega)) (fun t => offAt_inb (ht t) (by omega))
    (fun t => lanes t.val (16 * g)) (fun t => lanes t.val (16 * g + 128)) A B dA dB (fun v h => (hA ▸ h : InChunk v)) (fun v h => (hB ▸ h : InChunk v))
    body hbody
    (fun t => offAt_zero (ht t) (by omega)) (fun t => offAt_zero (ht t) (by omega)) (fun t => offAt_zero (ht t) (by omega)) (fun t => offAt_zero (ht t) (by omega))
    (fun t => lanes_toNat (ht t) (by omega)) (fun t => lanes_toNat (ht t) (by omega))
    (fun v h => hA ▸ h) (fun v h => hB ▸ h) h1 h2 h3 h4 h5 h6 h7 h8

end Pair

end Cert.Proof.K

end
-- ==== Proof.Tile.lean ====
/-
  What a SparseCore tile holds: its scratch buffers and semaphores taken apart, and the arrays its task reads and writes.
-/
module

public import proofs.«01_k».proof.Proof.Loop

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays a task reads and writes -/

abbrev xLoc (d : Dev nD) : Loc nD τ sig := (SparseCore.T d).loc main_v77
abbrev caLoc (d : Dev nD) : Loc nD τ sig := (SparseCore.T d).loc main_v21
abbrev saLoc (d : Dev nD) : Loc nD τ sig := (SparseCore.T d).loc main_v24
abbrev cbLoc (d : Dev nD) : Loc nD τ sig := (SparseCore.T d).loc main_v45
abbrev sbLoc (d : Dev nD) : Loc nD τ sig := (SparseCore.T d).loc main_v48
abbrev oLoc (d : Dev nD) : Loc nD τ sig := (SparseCore.T d).loc main_v78

/-- Chunk `r` of tile `i`'s rows of the result, as the program slices it. -/
abbrev oChunk (i : grid0.Coords) (r : Fin 2) : Memref sig .scVector .hbm S16384 .f32 :=
  (Memref.whole main_v78_scv).slice (Rect.unit (s := S1048576) (k0_off19 i (BitVec.ofNat 32 r.val)) S16384.size (k0_off19_inb i r)) (fun _ => rfl)

def at8388608 (n : ℕ) : S8388608.Idx := fun | 0 => ⟨n % 8388608, Nat.mod_lt _ (by decide)⟩

/-- A family of eight things among many: they are them and the rest. -/
theorem take_eight {I : Type} [DecidableEq I] {s : Finset I} (f : Fin 8 → I) (inj : Function.Injective f) (sub : ∀ j, f j ∈ s) (Φ : I → sProp 𝕄) :
    bigSep s Φ = iprop(Φ (f 0) ∗ Φ (f 1) ∗ Φ (f 2) ∗ Φ (f 3) ∗ Φ (f 4) ∗ Φ (f 5) ∗ Φ (f 6) ∗ Φ (f 7) ∗ bigSep (s \ Finset.univ.image f) Φ) := by
  have e : Finset.univ.image f = Finset.univ.map ⟨f, inj⟩ := (Finset.map_eq_image ⟨f, inj⟩ Finset.univ).symm
  rw [SparseCore.bigSep_sdiff_split' (t := Finset.univ.image f) fun x hx => by obtain ⟨j, _, rfl⟩ := Finset.mem_image.mp hx; exact sub j]
  conv_lhs => arg 1; rw [e, bigSep_map]
  rw [Function.Embedding.coeFn_mk,
    show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [show ∀ P Q R : sProp 𝕄, iprop((P ∗ Q) ∗ R) = iprop(P ∗ Q ∗ R) from fun P Q R => equiv_iff.mp ⟨BI.sep_assoc, BI.sep_assoc'⟩]

section Tile

variable (d : Dev nD) (i : grid0.Coords)

abbrev cV (i : grid0.Coords) : Fin τ.nSC := (i 0).castLE hcore0
abbrev jV (i : grid0.Coords) : Fin τ.nSub := (i 1).castLE hsub0
abbrev thr : Thread nD τ := V d (cV i) (jV i)

/-- The tile's eight transfer semaphores and its eight scratch buffers. -/
abbrev cell (k : Fin 8) : GSem nD τ sig := (thr d i, .dma (k.castLE (by decide)))
abbrev scr (k : Fin 8) : Ref sig .scVector :=
  match k with
  | 0 => cc0_scratch0 | 1 => cc0_scratch1 | 2 => cc0_scratch2 | 3 => cc0_scratch3
  | 4 => cc0_scratch4 | 5 => cc0_scratch5 | 6 => cc0_scratch6 | 7 => cc0_scratch7

theorem ownSems0_V :
    (ownSems0 (thr d i) : sProp 𝕄)
      = iprop(semVal (cell d i 0) 0 ∗ semVal (cell d i 1) 0 ∗ semVal (cell d i 2) 0 ∗ semVal (cell d i 3) 0
          ∗ semVal (cell d i 4) 0 ∗ semVal (cell d i 5) 0 ∗ semVal (cell d i 6) 0 ∗ semVal (cell d i 7) 0
          ∗ bigSep (ownCells (thr d i) \ Finset.univ.image (cell d i)) fun g => semVal g 0) := by
  unfold SparseCore.Cfg.ownSems0
  refine take_eight (cell d i) (fun a b h => ?_) (fun k => mem_ownCells.mpr ⟨rfl, ?_⟩) _
  · have := congrArg Prod.snd h
    simpa using this
  · show (SemLoc.dma (k.castLE (by decide)) : SemLoc sig).isScoped .scVector = true
    revert k; decide

theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f) ∗ (∃ f, (thr d i).loc cc0_scratch5 ↦{fullShare} f)
          ∗ (∃ f, (thr d i).loc cc0_scratch6 ↦{fullShare} f) ∗ (∃ f, (thr d i).loc cc0_scratch7 ↦{fullShare} f)
          ∗ bigSep (ownRefs (τ := τ) (.scVector (cV i) (jV i)) \ Finset.univ.image fun k => (Proc.scVector (cV i) (jV i)).devRef (scr k))
              fun b => iprop(∃ f, ((d, b) : Loc nD τ sig) ↦{fullShare} f)) := by
  unfold SparseCore.Cfg.ownBufs
  refine take_eight (fun k => (Proc.scVector (cV i) (jV i)).devRef (scr k)) (fun a b h => ?_) (fun k => ?_) _
  · have := Proc.devRef_injective _ h
    exact (show ∀ a b, scr a = scr b → a = b by decide) a b this
  · refine SparseCore.Cfg.mem_ownRefs_of_owner (p := Proc.scVector (cV i) (jV i)) ?_
    match k with
    | 0 => rfl | 1 => rfl | 2 => rfl | 3 => rfl | 4 => rfl | 5 => rfl | 6 => rfl | 7 => rfl

variable [FloatOps F]

/-- What a tile is handed: read shares of the data and of the four coefficient tables, and its two chunks of the result. -/
abbrev tileIn (q : PosShare TreeShare) (X : Buf (Elt F) (xLoc d)) (ca : Buf (Elt F) (caLoc d)) (sa : Buf (Elt F) (saLoc d))
    (cb : Buf (Elt F) (cbLoc d)) (sb : Buf (Elt F) (sbLoc d)) (o : Buf (Elt F) (oLoc d)) : sProp 𝕄 :=
  iprop((xLoc d ↦{q} X) ∗ (caLoc d ↦{q} ca) ∗ (saLoc d ↦{q} sa) ∗ (cbLoc d ↦{q} cb) ∗ (sbLoc d ↦{q} sb)
    ∗ (oLoc d ↦[(oChunk i 0).view.set]{fullShare} o) ∗ (oLoc d ↦[(oChunk i 1).view.set]{fullShare} o))

end Tile

end Cert.Proof.K

end
-- ==== Proof.Parts.lean ====
/-
  The stretches of a tile's task that only compute: between the transfers the kernel loads sixteen-lane groups of the four
  coefficient tables and runs one loop per pair of column groups. Each stretch takes the output chunk from the pairs done
  before it to the pairs done after it.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts

variable (d : Dev nD) (i : grid0.Coords)
  (f4 : Buf (Elt F) ((Memref.whole cc0_scratch4).view.loc (thr d i))) (f5 : Buf (Elt F) ((Memref.whole cc0_scratch5).view.loc (thr d i)))
  (f6 : Buf (Elt F) ((Memref.whole cc0_scratch6).view.loc (thr d i))) (f7 : Buf (Elt F) ((Memref.whole cc0_scratch7).view.loc (thr d i)))

/-- The four coefficient tables in the tile's memory, -/
abbrev tables : sProp 𝕄 :=
  iprop(((Memref.whole cc0_scratch4).view.loc (thr d i) ↦{fullShare} f4) ∗ ((Memref.whole cc0_scratch5).view.loc (thr d i) ↦{fullShare} f5)
    ∗ ((Memref.whole cc0_scratch6).view.loc (thr d i) ↦{fullShare} f6) ∗ ((Memref.whole cc0_scratch7).view.loc (thr d i) ↦{fullShare} f7))

/-- and their words. -/
abbrev tab4 : Vec F S256 .f32 := (Memref.whole cc0_scratch4).view.read (Elt F) f4
abbrev tab5 : Vec F S256 .f32 := (Memref.whole cc0_scratch5).view.read (Elt F) f5
abbrev tab6 : Vec F S256 .f32 := (Memref.whole cc0_scratch6).view.read (Elt F) f6
abbrev tab7 : Vec F S256 .f32 := (Memref.whole cc0_scratch7).view.read (Elt F) f7

/-- A chunk and the output chunk of which the first `g` pairs are done. -/
abbrev half (xb ob : Memref sig .scVector .vmem S16384 .f32) (fx : Buf (Elt F) (xb.view.loc (thr d i))) (g : ℕ) : sProp 𝕄 :=
  iprop((xb.view.loc (thr d i) ↦{fullShare} fx)
    ∗ ∃ fo, ⌜UpTo (rotated (tab4 d i f4) (tab5 d i f5) (tab6 d i f6) (tab7 d i f7) fun n => xb.view.read (Elt F) fx (at16384 n)) g 0 (ob.view.read (Elt F) fo)⌝
        ∗ ob.view.loc (thr d i) ↦{fullShare} fo)

/-- Pairs 0, 1, 2 of the first chunk. -/
theorem wp_part2 (fx : Buf (Elt F) ((Memref.whole cc0_scratch0).view.loc (thr d i))) {v20 v21 v22 v23 v24 : Vec F S16 .f32}
    (h20 : Group (tab4 d i f4) 0 v20) (h21 : Group (tab5 d i f5) 0 v21) (h22 : Group (tab4 d i f4) 128 v22) (h23 : Group (tab5 d i f5) 128 v23) (h24 : Group (tab6 d i f6) 0 v24) :
    iprop(tables d i f4 f5 f6 f7 ∗ half d i f4 f5 f6 f7 (Memref.whole cc0_scratch0) (Memref.whole cc0_scratch2) fx 0)
      ⊢ wp (M := 𝕄) frame (wpE (defs₀ (F := F)) 𝒱₀ (thr d i) none) Set.univ
          (k0_part2 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            k0_pay7 v20 v21 v22 v23 v24)
          fun v => iprop(⌜Group (tab4 d i f4) 48 v.1 ∧ Group (tab5 d i f5) 48 v.2⌝
            ∗ tables d i f4 f5 f6 f7 ∗ half d i f4 f5 f6 f7 (Memref.whole cc0_scratch0) (Memref.whole cc0_scratch2) fx 3) := by
  simp only [k0_part2_eq_skeleton]; unfold k0_part2_skel
  iintro ⟨⟨H4, H5, H6, H7⟩, Hh⟩
  sl_exec
  iapply (wp_pair d i (tab4 d i f4) (tab5 d i f5) (tab6 d i f6) (tab7 d i f7) 0 (by decide) fx rfl k0_chk1 k0_chk2 k0_chk1.dec k0_chk2.dec rfl rfl
    h20 h21 h22 h23 h24 (group_load _ _ _) (group_load _ _ _) (group_load _ _ _) (fun _ _ => ?_)) $$ Hh
  · rfl
  iintro Hh
  sl_exec
  iapply (wp_pair d i (tab4 d i f4) (tab5 d i f5) (tab6 d i f6) (tab7 d i f7) 1 (by decide) fx rfl k0_chk3 k0_chk4 k0_chk3.dec k0_chk4.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 2 (by decide) fx rfl k0_chk5 k0_chk6 k0_chk5.dec k0_chk6.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  rw [wp_ret]; imodintro
  isplitr [H4 H5 H6 H7 Hh]
  · ipureintro
    exact ⟨group_load _ _ _, group_load _ _ _⟩
  isplitl [H4 H5 H6 H7]
  · isplitl [H4]; · iexact H4
    isplitl [H5]; · iexact H5
    isplitl [H6]; · iexact H6
    iexact H7
  iexact Hh

/-- Pairs 3, 4, 5 of the first chunk. -/
theorem wp_part3 (fx : Buf (Elt F) ((Memref.whole cc0_scratch0).view.loc (thr d i))) {v47 v48 : Vec F S16 .f32}
    (h47 : Group (tab4 d i f4) 48 v47) (h48 : Group (tab5 d i f5) 48 v48) :
    iprop(tables d i f4 f5 f6 f7 ∗ half d i f4 f5 f6 f7 (Memref.whole cc0_scratch0) (Memref.whole cc0_scratch2) fx 3)
      ⊢ wp (M := 𝕄) frame (wpE (defs₀ (F := F)) 𝒱₀ (thr d i) none) Set.univ
          (k0_part3 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            k0_pay7 v47 v48)
          fun _ => iprop(tables d i f4 f5 f6 f7 ∗ half d i f4 f5 f6 f7 (Memref.whole cc0_scratch0) (Memref.whole cc0_scratch2) fx 6) := by
  simp only [k0_part3_eq_skeleton]; unfold k0_part3_skel
  iintro ⟨⟨H4, H5, H6, H7⟩, Hh⟩
  sl_exec
  iapply (wp_pair d i (tab4 d i f4) (tab5 d i f5) (tab6 d i f6) (tab7 d i f7) 3 (by decide) fx rfl k0_chk7 k0_chk8 k0_chk7.dec k0_chk8.dec rfl rfl
    h47 h48 (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 4 (by decide) fx rfl k0_chk9 k0_chk10 k0_chk9.dec k0_chk10.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 5 (by decide) fx rfl k0_chk11 k0_chk12 k0_chk11.dec k0_chk12.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  rw [wp_ret]; imodintro
  isplitl [H4 H5 H6 H7]
  · isplitl [H4]; · iexact H4
    isplitl [H5]; · iexact H5
    isplitl [H6]; · iexact H6
    iexact H7
  iexact Hh

/-- Pairs 2, 3 of the second chunk. -/
theorem wp_part6 (fx : Buf (Elt F) ((Memref.whole cc0_scratch1).view.loc (thr d i))) {v125 : Vec F S16 .f32}
    (h125 : Group (tab4 d i f4) 32 v125) :
    iprop(tables d i f4 f5 f6 f7 ∗ half d i f4 f5 f6 f7 (Memref.whole cc0_scratch1) (Memref.whole cc0_scratch3) fx 2)
      ⊢ wp (M := 𝕄) frame (wpE (defs₀ (F := F)) 𝒱₀ (thr d i) none) Set.univ
          (k0_part6 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            k0_pay7 v125)
          fun v => iprop(⌜Group (tab4 d i f4) 64 v.1 ∧ Group (tab5 d i f5) 64 v.2.1 ∧ Group (tab4 d i f4) 192 v.2.2.1 ∧ Group (tab5 d i f5) 192 v.2.2.2.1 ∧ Group (tab6 d i f6) 64 v.2.2.2.2.1 ∧ Group (tab7 d i f7) 64 v.2.2.2.2.2.1 ∧ Group (tab6 d i f6) 192 v.2.2.2.2.2.2.1 ∧ Group (tab7 d i f7) 192 v.2.2.2.2.2.2.2.1
              ∧ v.2.2.2.2.2.2.2.2.1 = 0#32 ∧ v.2.2.2.2.2.2.2.2.2 = 64#32⌝
            ∗ tables d i f4 f5 f6 f7 ∗ half d i f4 f5 f6 f7 (Memref.whole cc0_scratch1) (Memref.whole cc0_scratch3) fx 4) := by
  simp only [k0_part6_eq_skeleton]; unfold k0_part6_skel
  iintro ⟨⟨H4, H5, H6, H7⟩, Hh⟩
  sl_exec
  iapply (wp_pair d i (tab4 d i f4) (tab5 d i f5) (tab6 d i f6) (tab7 d i f7) 2 (by decide) fx rfl k0_chk21 k0_chk22 k0_chk21.dec k0_chk22.dec rfl rfl
    h125 (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 3 (by decide) fx rfl k0_chk23 k0_chk24 k0_chk23.dec k0_chk24.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  rw [wp_ret]; imodintro
  isplitr [H4 H5 H6 H7 Hh]
  · ipureintro
    exact ⟨group_load _ _ _, group_load _ _ _, group_load _ _ _, group_load _ _ _, group_load _ _ _, group_load _ _ _, group_load _ _ _, group_load _ _ _, rfl, rfl⟩
  isplitl [H4 H5 H6 H7]
  · isplitl [H4]; · iexact H4
    isplitl [H5]; · iexact H5
    isplitl [H6]; · iexact H6
    iexact H7
  iexact Hh

/-- Pairs 4, 5, 6 of the second chunk. -/
theorem wp_part7 (fx : Buf (Elt F) ((Memref.whole cc0_scratch1).view.loc (thr d i))) {v143 v144 v145 v146 v147 v148 v149 v150 : Vec F S16 .f32}
    (h143 : Group (tab4 d i f4) 64 v143) (h144 : Group (tab5 d i f5) 64 v144) (h145 : Group (tab4 d i f4) 192 v145) (h146 : Group (tab5 d i f5) 192 v146) (h147 : Group (tab6 d i f6) 64 v147) (h148 : Group (tab7 d i f7) 64 v148) (h149 : Group (tab6 d i f6) 192 v149) (h150 : Group (tab7 d i f7) 192 v150) :
    iprop(tables d i f4 f5 f6 f7 ∗ half d i f4 f5 f6 f7 (Memref.whole cc0_scratch1) (Memref.whole cc0_scratch3) fx 4)
      ⊢ wp (M := 𝕄) frame (wpE (defs₀ (F := F)) 𝒱₀ (thr d i) none) Set.univ
          (k0_part7 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            k0_pay7 v143 v144 v145 v146 v147 v148 v149 v150 0#32 64#32)
          fun v => iprop(⌜Group (tab4 d i f4) 112 v.1 ∧ Group (tab5 d i f5) 112 v.2.1 ∧ Group (tab4 d i f4) 240 v.2.2.1 ∧ Group (tab5 d i f5) 240 v.2.2.2.1 ∧ Group (tab6 d i f6) 112 v.2.2.2.2.1 ∧ Group (tab7 d i f7) 112 v.2.2.2.2.2⌝
            ∗ tables d i f4 f5 f6 f7 ∗ half d i f4 f5 f6 f7 (Memref.whole cc0_scratch1) (Memref.whole cc0_scratch3) fx 7) := by
  simp only [k0_part7_eq_skeleton]; unfold k0_part7_skel
  iintro ⟨⟨H4, H5, H6, H7⟩, Hh⟩
  iapply (wp_pair d i (tab4 d i f4) (tab5 d i f5) (tab6 d i f6) (tab7 d i f7) 4 (by decide) fx rfl k0_chk25 k0_chk26 k0_chk25.dec k0_chk26.dec rfl rfl
    h143 h144 h145 h146 h147 h148 h149 h150 (fun _ _ => ?_)) $$ Hh
  · rfl
  iintro Hh
  sl_exec
  iapply (wp_pair d i (tab4 d i f4) (tab5 d i f5) (tab6 d i f6) (tab7 d i f7) 5 (by decide) fx rfl k0_chk27 k0_chk28 k0_chk27.dec k0_chk28.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 6 (by decide) fx rfl k0_chk29 k0_chk30 k0_chk29.dec k0_chk30.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  rw [wp_ret]; imodintro
  isplitr [H4 H5 H6 H7 Hh]
  · ipureintro
    exact ⟨group_load _ _ _, group_load _ _ _, group_load _ _ _, group_load _ _ _, group_load _ _ _, group_load _ _ _⟩
  isplitl [H4 H5 H6 H7]
  · isplitl [H4]; · iexact H4
    isplitl [H5]; · iexact H5
    isplitl [H6]; · iexact H6
    iexact H7
  iexact Hh

end Parts

end Cert.Proof.K

end
-- ==== Proof.Copies.lean ====
/-
  The stretches of a tile's task that start and await copies: the four coefficient tables and the two chunks fetched, and the
  first output chunk started on its way back.
-/
module

public import proofs.«01_k».proof.Proof.Parts

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copies

variable (d : Dev nD) (i : grid0.Coords)

/-- Where chunk `r` of tile `i` starts in the flat arrays. -/
def base (r : ℕ) : ℕ := 65536 * (i 1).val + 32768 * (i 0).val + 16384 * r

theorem at8388608_of (x : S8388608.Idx) (n : ℕ) (h : (x 0).val = n) : x = at8388608 n := by
  subst h
  funext a
  obtain rfl : a = 0 := Subsingleton.elim _ _
  exact Fin.ext (Nat.mod_eq_of_lt (x 0).isLt).symm

/-- The chunk's words are the flat array's from `b` on. -/
def IsChunk (X : Buf (Elt F) (xLoc d)) (b : ℕ) (f : Vec F S16384 .f32) : Prop := ∀ n, n < 16384 → f (at16384 n) = X (at8388608 (b + n))

/-- A tile's obligations on its waits, whatever it has waited for. -/
abbrev owed (O : CellTallies nD τ sig (HIx 1)) (W : Waits sig (HIx 1)) : sProp 𝕄 :=
  iprop(∃ W', ⌜∀ p ∈ W', p ∈ W ∨ p.2 = none⌝ ∗ owes (thr d i) O W')

/-- The second chunk of the data, as the program slices it. -/
abbrev xChunk1 : Memref sig .scVector .hbm S16384 .f32 :=
  (Memref.whole main_v77_scv).slice (Rect.unit (s := S8388608) (k0_off2 i) S16384.size (k0_off2_inb i (by decide))) (fun _ => rfl)

/-- The fetch of the second chunk, on its way: what its wait gives back. -/
abbrev fetching (q : PosShare TreeShare) (X : Buf (Elt F) (xLoc d)) (g1 : Buf (Elt F) ((Memref.whole cc0_scratch1).view.loc (thr d i))) : sProp 𝕄 :=
  Transfers.Flight countersEmb (thr d i) (SemLoc.dma ⟨1, by decide⟩) default 524288
    iprop(((Memref.whole cc0_scratch1).view.loc (thr d i) ↦{fullShare} g1) ∗ (xLoc d ↦[(xChunk1 i).view.set]{q} X))

/-- The flat array but for the chunk that is on its way. -/
abbrev unfetched (q : PosShare TreeShare) (X : Buf (Elt F) (xLoc d)) : sProp 𝕄 := xLoc d ↦[Finset.univ \ (xChunk1 i).view.set]{q} X

set_option maxHeartbeats 4000000 in
/-- The tables and the first chunk fetched, the second chunk's fetch started, and the first five groups loaded. -/
theorem wp_part1 (O : CellTallies nD τ sig (HIx 1)) (W : Waits sig (HIx 1)) (hO : ∀ g, O g none = 0)
    (q : PosShare TreeShare) (X : Buf (Elt F) (xLoc d)) (ca : Buf (Elt F) (caLoc d)) (sa : Buf (Elt F) (saLoc d))
    (cb : Buf (Elt F) (cbLoc d)) (sb : Buf (Elt F) (sbLoc d))
    (f0 : Buf (Elt F) ((thr d i).loc cc0_scratch0)) (f1 : Buf (Elt F) ((thr d i).loc cc0_scratch1)) (f4 : Buf (Elt F) ((thr d i).loc cc0_scratch4))
    (f5 : Buf (Elt F) ((thr d i).loc cc0_scratch5)) (f6 : Buf (Elt F) ((thr d i).loc cc0_scratch6)) (f7 : Buf (Elt F) ((thr d i).loc cc0_scratch7)) :
    iprop(levAts (K (F := F)).L (K (F := F)).lev ∗ (xLoc d ↦{q} X) ∗ (caLoc d ↦{q} ca) ∗ (saLoc d ↦{q} sa) ∗ (cbLoc d ↦{q} cb) ∗ (sbLoc d ↦{q} sb)
        ∗ ((thr d i).loc cc0_scratch0 ↦{fullShare} f0) ∗ ((thr d i).loc cc0_scratch1 ↦{fullShare} f1)
        ∗ ((thr d i).loc cc0_scratch4 ↦{fullShare} f4) ∗ ((thr d i).loc cc0_scratch5 ↦{fullShare} f5)
        ∗ ((thr d i).loc cc0_scratch6 ↦{fullShare} f6) ∗ ((thr d i).loc cc0_scratch7 ↦{fullShare} f7)
        ∗ semVal (cell d i 0) 0 ∗ semVal (cell d i 1) 0 ∗ semVal (cell d i 4) 0 ∗ semVal (cell d i 5) 0 ∗ semVal (cell d i 6) 0 ∗ semVal (cell d i 7) 0
        ∗ owes (thr d i) O W)
      ⊢ wp (M := 𝕄) frame (wpE (defs₀ (F := F)) 𝒱₀ (thr d i) none) Set.univ
          (k0_part1 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3)
          fun v => iprop(⌜v.2.1 = k0_pay7 ∧ v.2.2.1 = 0#32 ∧ v.2.2.2.1 = 0#32 ∧ Group (tab4 d i ca) 0 v.2.2.2.2.1 ∧ Group (tab5 d i sa) 0 v.2.2.2.2.2.1
                ∧ Group (tab4 d i ca) 128 v.2.2.2.2.2.2.1 ∧ Group (tab5 d i sa) 128 v.2.2.2.2.2.2.2.1 ∧ Group (tab6 d i cb) 0 v.2.2.2.2.2.2.2.2⌝
            ∗ (∃ g0, ⌜IsChunk d X (base i 0) ((Memref.whole cc0_scratch0).view.read (Elt F) g0)⌝ ∗ (Memref.whole cc0_scratch0).view.loc (thr d i) ↦{fullShare} g0)
            ∗ (∃ g1, ⌜IsChunk d X (base i 1) ((Memref.whole cc0_scratch1).view.read (Elt F) g1)⌝ ∗ fetching d i q X g1) ∗ unfetched d i q X
            ∗ tables d i ca sa cb sb ∗ (caLoc d ↦{q} ca) ∗ (saLoc d ↦{q} sa) ∗ (cbLoc d ↦{q} cb) ∗ (sbLoc d ↦{q} sb)
            ∗ semVal (cell d i 0) 0 ∗ semVal (cell d i 4) 0 ∗ semVal (cell d i 5) 0 ∗ semVal (cell d i 6) 0 ∗ semVal (cell d i 7) 0
            ∗ owed d i O W) := by
  have k0_h1 : k0_cond1 = 1#1 := by decide
  simp only [k0_part1_eq_skeleton]; unfold k0_part1_skel
  iintro ⟨#Hlv, Hx, Hca, Hsa, Hcb, Hsb, Hs0, Hs1, Hs4, Hs5, Hs6, Hs7, Hc0, Hc1, Hc4, Hc5, Hc6, Hc7, HO⟩
  ihave Hmw := (show levAts (K (F := F)).L (K (F := F)).lev ⊢ Transfers.MayWaits (thr d i) (default : HIx 1) O from
    (K (F := F)).mayWaits_none (thr := thr d i) hO) $$ Hlv
  ihave Hx := (Entails.of_eq (show (xLoc d ↦{q} X : sProp 𝕄) = (Memref.whole main_v77_scv).view.loc (thr d i) ↦{q} X from rfl)) $$ Hx
  ihave Hca := (Entails.of_eq (show (caLoc d ↦{q} ca : sProp 𝕄) = (Memref.whole main_v21_scv).view.loc (thr d i) ↦{q} ca from rfl)) $$ Hca
  ihave Hsa := (Entails.of_eq (show (saLoc d ↦{q} sa : sProp 𝕄) = (Memref.whole main_v24_scv).view.loc (thr d i) ↦{q} sa from rfl)) $$ Hsa
  ihave Hcb := (Entails.of_eq (show (cbLoc d ↦{q} cb : sProp 𝕄) = (Memref.whole main_v45_scv).view.loc (thr d i) ↦{q} cb from rfl)) $$ Hcb
  ihave Hsb := (Entails.of_eq (show (sbLoc d ↦{q} sb : sProp 𝕄) = (Memref.whole main_v48_scv).view.loc (thr d i) ↦{q} sb from rfl)) $$ Hsb
  ihave Hs0 := (Entails.of_eq (show ((thr d i).loc cc0_scratch0 ↦{fullShare} f0 : sProp 𝕄) = (Memref.whole cc0_scratch0).view.loc (thr d i) ↦{fullShare} f0 from rfl)) $$ Hs0
  ihave Hs1 := (Entails.of_eq (show ((thr d i).loc cc0_scratch1 ↦{fullShare} f1 : sProp 𝕄) = (Memref.whole cc0_scratch1).view.loc (thr d i) ↦{fullShare} f1 from rfl)) $$ Hs1
  ihave Hs4 := (Entails.of_eq (show ((thr d i).loc cc0_scratch4 ↦{fullShare} f4 : sProp 𝕄) = (Memref.whole cc0_scratch4).view.loc (thr d i) ↦{fullShare} f4 from rfl)) $$ Hs4
  ihave Hs5 := (Entails.of_eq (show ((thr d i).loc cc0_scratch5 ↦{fullShare} f5 : sProp 𝕄) = (Memref.whole cc0_scratch5).view.loc (thr d i) ↦{fullShare} f5 from rfl)) $$ Hs5
  ihave Hs6 := (Entails.of_eq (show ((thr d i).loc cc0_scratch6 ↦{fullShare} f6 : sProp 𝕄) = (Memref.whole cc0_scratch6).view.loc (thr d i) ↦{fullShare} f6 from rfl)) $$ Hs6
  ihave Hs7 := (Entails.of_eq (show ((thr d i).loc cc0_scratch7 ↦{fullShare} f7 : sProp 𝕄) = (Memref.whole cc0_scratch7).view.loc (thr d i) ↦{fullShare} f7 from rfl)) $$ Hs7
  sl_exec
  have e4 : View.write (Elt F) (Memref.whole cc0_scratch4).view f4 (wp_part1.sl.dma0 d ca) Finset.univ = ca := View.write_whole_univ cc0_scratch4 _ _
  have e5 : View.write (Elt F) (Memref.whole cc0_scratch5).view f5 (wp_part1.sl.dma0_1 d sa) Finset.univ = sa := View.write_whole_univ cc0_scratch5 _ _
  have e6 : View.write (Elt F) (Memref.whole cc0_scratch6).view f6 (wp_part1.sl.dma0_2 d cb) Finset.univ = cb := View.write_whole_univ cc0_scratch6 _ _
  have e7 : View.write (Elt F) (Memref.whole cc0_scratch7).view f7 (wp_part1.sl.dma0_3 d sb) Finset.univ = sb := View.write_whole_univ cc0_scratch7 _ _
  rw [e4, e5, e6, e7, wp_ret]
  imodintro
  isplitr
  · ipureintro
    exact ⟨rfl, rfl, rfl, group_load _ _ _, group_load _ _ _, group_load _ _ _, group_load _ _ _, group_load _ _ _⟩
  isplitl [Hs0]
  · iexists _; isplitr [Hs0]
    on_goal 2 => iexact Hs0
    ipureintro
    intro n hn
    rw [View.read_write_univ]
    refine congrArg X (at8388608_of _ _ ?_)
    show k0_off1 i 0 + 1 * ((at16384 n) 0).val = base i 0 + n
    rw [at16384_val n hn, k0_off1_eq, base]
    show _ + 1 * n = _
    simp only [Matrix.cons_val_zero]
    omega
  isplitl [Hc1]
  · iexists _; isplitr [Hc1]
    on_goal 2 => iexact Hc1
    ipureintro
    intro n hn
    rw [View.read_write_univ]
    refine congrArg X (at8388608_of _ _ ?_)
    show k0_off2 i 0 + 1 * ((at16384 n) 0).val = base i 1 + n
    rw [at16384_val n hn, k0_off2_eq, base]
    show _ + 1 * n = _
    simp only [Matrix.cons_val_zero]
    omega
  isplitl [Hx]; · iexact Hx
  isplitl [Hs4 Hs5 Hs6 Hs7]
  · isplitl [Hs4]; · iexact Hs4
    isplitl [Hs5]; · iexact Hs5
    isplitl [Hs6]; · iexact Hs6
    iexact Hs7
  isplitl [Hca]; · iexact Hca
  isplitl [Hsa]; · iexact Hsa
  isplitl [Hcb]; · iexact Hcb
  isplitl [Hsb]; · iexact Hsb
  isplitl [Hc0]; · iexact Hc0
  isplitl [Hc4]; · iexact Hc4
  isplitl [Hc5]; · iexact Hc5
  isplitl [Hc6]; · iexact Hc6
  isplitl [Hc7]; · iexact Hc7
  iexists _; isplitr [HO]
  on_goal 2 => iexact HO
  ipureintro
  intro p hp
  simp only [Finset.mem_insert] at hp
  rcases hp with h | h | h | h | h | h
  · exact Or.inr (h ▸ rfl)
  · exact Or.inr (h ▸ rfl)
  · exact Or.inr (h ▸ rfl)
  · exact Or.inr (h ▸ rfl)
  · exact Or.inr (h ▸ rfl)
  · exact Or.inl h

end Copies

end Cert.Proof.K

end
-- ==== Proof.Sends.lean ====
/-
  The two stretches of a tile's task that compute and move a chunk as well: the last pairs of the first chunk and the start of
  its copy into the result, and the arrival of the second chunk and its first pairs.
-/
module

public import proofs.«01_k».proof.Proof.Parts
public import proofs.«01_k».proof.Proof.Copies

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Sends

variable (d : Dev nD) (i : grid0.Coords)
  (f4 : Buf (Elt F) ((Memref.whole cc0_scratch4).view.loc (thr d i))) (f5 : Buf (Elt F) ((Memref.whole cc0_scratch5).view.loc (thr d i)))
  (f6 : Buf (Elt F) ((Memref.whole cc0_scratch6).view.loc (thr d i))) (f7 : Buf (Elt F) ((Memref.whole cc0_scratch7).view.loc (thr d i)))

/-- Before its first pair nothing is asked of the output chunk. -/
theorem UpTo_start_half (xb ob : Memref sig .scVector .vmem S16384 .f32) (fx : Buf (Elt F) (xb.view.loc (thr d i))) (fo : Buf (Elt F) (ob.view.loc (thr d i))) :
    iprop((xb.view.loc (thr d i) ↦{fullShare} fx) ∗ (ob.view.loc (thr d i) ↦{fullShare} fo)) ⊢ half (F := F) d i f4 f5 f6 f7 xb ob fx 0 := by
  iintro ⟨H, Ho⟩
  isplitl [H]; · iexact H
  iexists fo; isplitr
  · ipureintro; exact UpTo.start _ _
  iexact Ho

/-- The copy of a done output chunk into chunk `r` of the result, on its way: what its wait gives back. -/
abbrev sending (s : Fin 8) (r : Fin 2) (ob : Memref sig .scVector .vmem S16384 .f32) (o : Buf (Elt F) (oLoc d)) (w : Vec F S16384 .f32)
    (fo : Buf (Elt F) (ob.view.loc (thr d i))) : sProp 𝕄 :=
  Transfers.Flight countersEmb (thr d i) (SemLoc.dma (s.castLE (by decide))) default 524288
    iprop(((oChunk i r).view.loc (thr d i) ↦[(oChunk i r).view.set]{fullShare} (oChunk i r).view.writes (Elt F) o [⟨Rect.whole S16384, w⟩])
      ∗ (ob.view.loc (thr d i) ↦[ob.view.set]{fullShare} fo))

set_option maxHeartbeats 4000000 in
/-- Pairs 6 and 7 of the first chunk, and the start of its copy into the result. -/
theorem wp_part4 (fx : Buf (Elt F) ((Memref.whole cc0_scratch0).view.loc (thr d i))) (o : Buf (Elt F) (oLoc d)) (v2 : BitVec 32) :
    iprop(tables d i f4 f5 f6 f7 ∗ half d i f4 f5 f6 f7 (Memref.whole cc0_scratch0) (Memref.whole cc0_scratch2) fx 6
        ∗ (oLoc d ↦[(oChunk i 0).view.set]{fullShare} o) ∗ semVal (cell d i 2) 0)
      ⊢ wp (M := 𝕄) frame (wpE (defs₀ (F := F)) 𝒱₀ (thr d i) none) Set.univ
          (k0_part4 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            v2 k0_pay7 0#32 0#32)
          fun v => iprop(⌜v.1 = 1#32⌝ ∗ tables d i f4 f5 f6 f7 ∗ ((Memref.whole cc0_scratch0).view.loc (thr d i) ↦{fullShare} fx)
            ∗ ∃ w fo, ⌜UpTo (rotated (tab4 d i f4) (tab5 d i f5) (tab6 d i f6) (tab7 d i f7) fun n => (Memref.whole cc0_scratch0).view.read (Elt F) fx (at16384 n)) 8 0 w⌝
                ∗ sending d i 2 0 (Memref.whole cc0_scratch2) o w fo) := by
  simp only [k0_part4_eq_skeleton]; unfold k0_part4_skel
  iintro ⟨⟨H4, H5, H6, H7⟩, Hh, Ho, Hc2⟩
  ihave Ho := (Entails.of_eq (show (oLoc d ↦[(oChunk i 0).view.set]{fullShare} o : sProp 𝕄) = (oChunk i 0).view.loc (thr d i) ↦[(oChunk i 0).view.set]{fullShare} o from rfl)) $$ Ho
  sl_exec
  iapply (wp_pair d i (tab4 d i f4) (tab5 d i f5) (tab6 d i f6) (tab7 d i f7) 6 (by decide) fx rfl k0_chk13 k0_chk14 k0_chk13.dec k0_chk14.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 7 (by decide) fx rfl k0_chk15 k0_chk16 k0_chk15.dec k0_chk16.dec rfl rfl
    (group_load _ _ _) (group_load _ _ _) (group_load _ _ _) (group_load _ _ _) (group_load _ _ _) (group_load _ _ _) (group_load _ _ _) (group_load _ _ _) (fun _ _ => ?_)) $$ Hh
  · rfl
  iintro ⟨Hs0, ⟨%fo, %hfo, Hs2⟩⟩
  sl_exec
  rw [wp_ret]; imodintro
  isplitr
  · ipureintro; rfl
  isplitl [H4 H5 H6 H7]
  · isplitl [H4]; · iexact H4
    isplitl [H5]; · iexact H5
    isplitl [H6]; · iexact H6
    iexact H7
  isplitl [Hs0]; · iexact Hs0
  iexists _, _; isplitr [Hc2]
  on_goal 2 => iexact Hc2
  ipureintro; exact hfo

set_option maxHeartbeats 4000000 in
/-- The second chunk arrives, and its pairs 0 and 1. -/
theorem wp_part5 (O : CellTallies nD τ sig (HIx 1)) (W : Waits sig (HIx 1)) (hO : ∀ g, O g none = 0)
    (q : PosShare TreeShare) (X : Buf (Elt F) (xLoc d)) (g1 : Buf (Elt F) ((Memref.whole cc0_scratch1).view.loc (thr d i)))
    (f3 : Buf (Elt F) ((thr d i).loc cc0_scratch3)) (v2 v100 : BitVec 32) :
    iprop(levAts (K (F := F)).L (K (F := F)).lev ∗ fetching d i q X g1 ∗ unfetched d i q X ∗ tables d i f4 f5 f6 f7
        ∗ ((thr d i).loc cc0_scratch3 ↦{fullShare} f3) ∗ owes (thr d i) O W)
      ⊢ wp (M := 𝕄) frame (wpE (defs₀ (F := F)) 𝒱₀ (thr d i) none) Set.univ
          (k0_part5 i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3
            v2 k0_pay7 1#32 v100)
          fun v => iprop(⌜Group (tab4 d i f4) 32 v⌝ ∗ tables d i f4 f5 f6 f7 ∗ half d i f4 f5 f6 f7 (Memref.whole cc0_scratch1) (Memref.whole cc0_scratch3) g1 2
            ∗ (xLoc d ↦{q} X) ∗ semVal (cell d i 1) 0 ∗ owed d i O W) := by
  have k0_h3 : ¬ k0_cond3 = 1#1 := by decide
  simp only [k0_part5_eq_skeleton]; unfold k0_part5_skel
  iintro ⟨#Hlv, Hc1, Hx, ⟨H4, H5, H6, H7⟩, Hs3, HO⟩
  ihave Hmw := (show levAts (K (F := F)).L (K (F := F)).lev ⊢ Transfers.MayWaits (thr d i) (default : HIx 1) O from
    (K (F := F)).mayWaits_none (thr := thr d i) hO) $$ Hlv
  ihave Hs3 := (Entails.of_eq (show ((thr d i).loc cc0_scratch3 ↦{fullShare} f3 : sProp 𝕄) = (Memref.whole cc0_scratch3).view.loc (thr d i) ↦{fullShare} f3 from rfl)) $$ Hs3
  sl_exec
  ihave Hh := (UpTo_start_half d i f4 f5 f6 f7 (Memref.whole cc0_scratch1) (Memref.whole cc0_scratch3) g1 f3) $$ [Hc1_dst Hs3]
  · isplitl [Hc1_dst]; · iexact Hc1_dst
    iexact Hs3
  iapply (wp_pair d i (tab4 d i f4) (tab5 d i f5) (tab6 d i f6) (tab7 d i f7) 0 (by decide) g1 rfl k0_chk17 k0_chk18 k0_chk17.dec k0_chk18.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  iapply (wp_pair d i (tab4 d i f4) (tab5 d i f5) (tab6 d i f6) (tab7 d i f7) 1 (by decide) g1 rfl k0_chk19 k0_chk20 k0_chk19.dec k0_chk20.dec rfl rfl
    (group_load _ _ _) (group_load _ _ _) (group_load _ _ _) (group_load _ _ _) (group_load _ _ _) (group_load _ _ _) (group_load _ _ _) (group_load _ _ _) (fun _ _ => ?_)) $$ Hh
  · rfl
  iintro Hh
  sl_exec
  rw [wp_ret]; imodintro
  isplitr
  · ipureintro; exact group_load _ _ _
  isplitl [H4 H5 H6 H7]
  · isplitl [H4]; · iexact H4
    isplitl [H5]; · iexact H5
    isplitl [H6]; · iexact H6
    iexact H7
  isplitl [Hh]; · iexact Hh
  isplitl [Hx]; · iexact Hx
  isplitl [Hc1]; · iexact Hc1
  iexists _; isplitr [HO]
  on_goal 2 => iexact HO
  ipureintro
  intro p hp
  simp only [Finset.mem_insert] at hp
  rcases hp with h | h
  · exact Or.inr (h ▸ rfl)
  · exact Or.inl h

end Sends

end Cert.Proof.K

end
-- ==== Proof.Out.lean ====
/-
  What a tile's two chunks of the result hold: the rotation of the flat array at their own positions. A chunk starts at a whole
  number of rows, so rotating it on its own is rotating the array there.
-/
module

public import proofs.«01_k».proof.Proof.Copies

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The flat result: the rotation of the flat data by the four tables. -/
def scOut (d : Dev nD) (X : Buf (Elt F) (xLoc d)) (ca : Buf (Elt F) (caLoc d)) (sa : Buf (Elt F) (saLoc d))
    (cb : Buf (Elt F) (cbLoc d)) (sb : Buf (Elt F) (sbLoc d)) : Buf (Elt F) (oLoc d) :=
  fun x => rotated (F := F) ca sa cb sb (fun n => X (at8388608 n)) (x 0).val

theorem xor_row (t n e : ℕ) (he : e < 256) : (256 * t + n) ^^^ e = 256 * t + (n ^^^ e) := by
  have h1 := xor_split 8 (t + n / 256) (n % 256) 0 e (by omega) (by simpa using he)
  have h2 := xor_split 8 (n / 256) (n % 256) 0 e (by omega) (by simpa using he)
  simp only [Nat.reducePow, Nat.mul_zero, Nat.zero_add, Nat.xor_zero] at h1 h2
  rw [show 256 * (t + n / 256) + n % 256 = 256 * t + n by omega] at h1
  rw [show 256 * (n / 256) + n % 256 = n by omega] at h2
  omega

theorem col256_row (t n : ℕ) : col256 (256 * t + n) = col256 n := by
  funext a
  obtain rfl : a = 0 := Subsingleton.elim _ _
  exact Fin.ext (show (256 * t + n) % 256 = n % 256 by omega)

/-- Rotating from a whole number of rows on is rotating there. -/
theorem rotated_row (ca sa cb sb : Vec F S256 .f32) (X Y : ℕ → F .f32) (t : ℕ) (h : ∀ n, n < 16384 → Y n = X (256 * t + n)) (n : ℕ) (hn : n < 16384) :
    rotated ca sa cb sb Y n = rotated ca sa cb sb X (256 * t + n) := by
  have lt : ∀ {a b : ℕ}, a < 16384 → b < 16384 → a ^^^ b < 16384 := fun {a b} ha hb => Nat.xor_lt_two_pow (n := 14) ha hb
  have inner : ∀ m, m < 16384 → innerAt ca sa Y m = innerAt ca sa X (256 * t + m) := fun m hm => by
    unfold innerAt
    rw [col256_row, xor_row t m 1 (by decide), h m hm, h _ (lt hm (by decide))]
  unfold rotated
  rw [col256_row, xor_row t n 128 (by decide), inner n hn, inner _ (lt hn (by decide))]

section Out

variable (d : Dev nD) (i : grid0.Coords)

theorem emb_oChunk (r : Fin 2) (y : S16384.Idx) : (((oChunk i r).view.emb y : S1048576.Idx) 0).val = base i r + (y 0).val := by
  show k0_off19 i (BitVec.ofNat 32 r.val) 0 + 1 * (y 0).val = _
  rw [k0_off19_eq, base]
  simp only [Matrix.cons_val_zero]
  omega

theorem chunk_value (r : Fin 2) (X : Buf (Elt F) (xLoc d)) (ca : Buf (Elt F) (caLoc d)) (sa : Buf (Elt F) (saLoc d))
    (cb : Buf (Elt F) (cbLoc d)) (sb : Buf (Elt F) (sbLoc d)) (o : Buf (Elt F) (oLoc d)) (fx w : Vec F S16384 .f32)
    (hx : IsChunk d X (base i r) fx) (hw : UpTo (rotated (F := F) ca sa cb sb fun n => fx (at16384 n)) 8 0 w) :
    ∀ x ∈ (oChunk i r).view.set, (oChunk i r).view.writes (Elt F) o [⟨Rect.whole S16384, w⟩] x = scOut d X ca sa cb sb x := by
  intro x hx'
  obtain ⟨y, -, rfl⟩ := Finset.mem_map.mp hx'
  have e : (Rect.whole S16384).emb y = y := by
    funext a
    exact Fin.ext (show 0 + 1 * (y a).val = _ by omega)
  have := View.read_writes_cons_emb (oChunk i r).view o (Rect.whole S16384) w [] y
  rw [e, View.read_apply, cast_eq] at this
  rw [this]
  rw [hw.all y]
  show _ = rotated (F := F) ca sa cb sb (fun n => X (at8388608 n)) (((oChunk i r).view.emb y : S1048576.Idx) 0).val
  rw [emb_oChunk]
  have eb : base i r = 256 * (256 * (i 1).val + 128 * (i 0).val + 64 * r.val) := by unfold base; omega
  rw [eb] at hx ⊢
  exact rotated_row (F := F) ca sa cb sb (fun n => X (at8388608 n)) (fun n => fx (at16384 n)) _ hx _ (y 0).isLt

end Out

end Cert.Proof.K

end
-- ==== Proof.Body.lean ====
/-
  The task of one SparseCore tile, run once at a symbolic tile `(c, s)`: four coefficient tables fetched whole, two chunks of
  64 rows fetched, each rotated into an output chunk (eight pairs each), and each output chunk written back.
-/
module

public import proofs.«01_k».proof.Proof.Sends
public import proofs.«01_k».proof.Proof.Out

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (i : grid0.Coords)

set_option maxHeartbeats 4000000 in
theorem tile_body (hF : (K (F := F)).Facts) (O : CellTallies nD τ sig (HIx 1)) (W : Waits sig (HIx 1)) (hO : ∀ g, O g none = 0)
    (q : PosShare TreeShare) (X : Buf (Elt F) (xLoc d)) (ca : Buf (Elt F) (caLoc d)) (sa : Buf (Elt F) (saLoc d))
    (cb : Buf (Elt F) (cbLoc d)) (sb : Buf (Elt F) (sbLoc d)) (o : Buf (Elt F) (oLoc d)) :
    iprop(levAts (K (F := F)).L (K (F := F)).lev ∗ emp ∗ tileIn d i q X ca sa cb sb o
        ∗ scopedBufs (thr d i) ∗ scopedSems0 (thr d i) ∗ owes (thr d i) O W)
      ⊢ wp frame (wpE (defs₀ (F := F)) 𝒱₀ (thr d i) none) Set.univ
          (cc0__sc_body i (Memref.whole main_v77_scv) (Memref.isWhole_whole _) (Memref.whole main_v21_scv) (Memref.isWhole_whole _)
            (Memref.whole main_v24_scv) (Memref.isWhole_whole _) (Memref.whole main_v45_scv) (Memref.isWhole_whole _)
            (Memref.whole main_v48_scv) (Memref.isWhole_whole _) (Memref.whole main_v78_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1 cc0_scoped2 cc0_scoped3)
          fun _ => iprop(tileIn d i q X ca sa cb sb (scOut d X ca sa cb sb)
            ∗ scopedBufs (thr d i) ∗ scopedSems0 (thr d i)
            ∗ ∃ W', ⌜∀ p ∈ W', p ∈ W ∨ p.2 = none⌝ ∗ owes (thr d i) O W') := by
  simp only [cc0__sc_body_eq_skeleton]; unfold cc0__sc_body_skel
  rw [(K (F := F)).scopedBufs_V hF d (cV i) (jV i), SparseCore.Cfg.scopedSems0_V (Val := Elt F) d (cV i) (jV i), ownSems0_V, ownBufs_V]
  iintro ⟨#Hlv, -, ⟨Hx, Hca, Hsa, Hcb, Hsb, Ho0, Ho1⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, Hbufs⟩,
    ⟨Hc0, Hc1, Hc2, Hc3, Hc4, Hc5, Hc6, Hc7, Hsems⟩, HO⟩
  rw [wp_bind]
  iapply (wp_wand (M := 𝕄) Idealize.ShloMosaic.frame) $$ [Hx Hca Hsa Hcb Hsb Hs0 Hs1 Hs4 Hs5 Hs6 Hs7 Hc0 Hc1 Hc4 Hc5 Hc6 Hc7 HO]
  · iapply (wp_part1 d i O W hO q X ca sa cb sb f0 f1 f4 f5 f6 f7) $$ [Hx Hca Hsa Hcb Hsb Hs0 Hs1 Hs4 Hs5 Hs6 Hs7 Hc0 Hc1 Hc4 Hc5 Hc6 Hc7 HO]
    isplitr; · iexact Hlv
    isplitl [Hx]; · iexact Hx
    isplitl [Hca]; · iexact Hca
    isplitl [Hsa]; · iexact Hsa
    isplitl [Hcb]; · iexact Hcb
    isplitl [Hsb]; · iexact Hsb
    isplitl [Hs0]; · iexact Hs0
    isplitl [Hs1]; · iexact Hs1
    isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    isplitl [Hc4]; · iexact Hc4
    isplitl [Hc5]; · iexact Hc5
    isplitl [Hc6]; · iexact Hc6
    isplitl [Hc7]; · iexact Hc7
    iexact HO
  iintro %v ⟨%hv, ⟨%g0, %hg0, Hs0⟩, ⟨%g1, %hg1, Hf1⟩, Hx, ⟨H4, H5, H6, H7⟩, Hca, Hsa, Hcb, Hsb, Hc0, Hc4, Hc5, Hc6, Hc7, ⟨%W1, %hW1, HO⟩⟩
  obtain ⟨v2, v5, c0, v10, v20, v21, v22, v23, v24⟩ := v
  dsimp only at hv
  obtain ⟨rfl, rfl, rfl, h20, h21, h22, h23, h24⟩ := hv
  ihave Hh := (UpTo_start_half d i ca sa cb sb (Memref.whole cc0_scratch0) (Memref.whole cc0_scratch2) g0 f2) $$ [Hs0 Hs2]
  · isplitl [Hs0]; · iexact Hs0
    iexact Hs2
  rw [wp_bind]
  iapply (wp_wand (M := 𝕄) Idealize.ShloMosaic.frame) $$ [H4 H5 H6 H7 Hh]
  · iapply (wp_part2 d i ca sa cb sb g0 h20 h21 h22 h23 h24) $$ [H4 H5 H6 H7 Hh]
    isplitl [H4 H5 H6 H7]
    · isplitl [H4]; · iexact H4
      isplitl [H5]; · iexact H5
      isplitl [H6]; · iexact H6
      iexact H7
    iexact Hh
  iintro %v ⟨%hv, ⟨H4, H5, H6, H7⟩, Hh⟩
  rw [wp_bind]
  iapply (wp_wand (M := 𝕄) Idealize.ShloMosaic.frame) $$ [H4 H5 H6 H7 Hh]
  · iapply (wp_part3 d i ca sa cb sb g0 hv.1 hv.2) $$ [H4 H5 H6 H7 Hh]
    isplitl [H4 H5 H6 H7]
    · isplitl [H4]; · iexact H4
      isplitl [H5]; · iexact H5
      isplitl [H6]; · iexact H6
      iexact H7
    iexact Hh
  iintro %_ ⟨⟨H4, H5, H6, H7⟩, Hh⟩
  rw [wp_bind]
  iapply (wp_wand (M := 𝕄) Idealize.ShloMosaic.frame) $$ [H4 H5 H6 H7 Hh Ho0 Hc2]
  · iapply (wp_part4 d i ca sa cb sb g0 o v2) $$ [H4 H5 H6 H7 Hh Ho0 Hc2]
    isplitl [H4 H5 H6 H7]
    · isplitl [H4]; · iexact H4
      isplitl [H5]; · iexact H5
      isplitl [H6]; · iexact H6
      iexact H7
    isplitl [Hh]; · iexact Hh
    isplitl [Ho0]; · iexact Ho0
    iexact Hc2
  iintro %v ⟨%hv, ⟨H4, H5, H6, H7⟩, Hs0, ⟨%w0, %fo0, %hw0, Hf2⟩⟩
  obtain ⟨v97, v100⟩ := v
  dsimp only at hv
  subst hv
  rw [wp_bind]
  iapply (wp_wand (M := 𝕄) Idealize.ShloMosaic.frame) $$ [Hf1 Hx H4 H5 H6 H7 Hs3 HO]
  · iapply (wp_part5 d i ca sa cb sb O W1 hO q X g1 f3 v2 v100) $$ [Hf1 Hx H4 H5 H6 H7 Hs3 HO]
    isplitr; · iexact Hlv
    isplitl [Hf1]; · iexact Hf1
    isplitl [Hx]; · iexact Hx
    isplitl [H4 H5 H6 H7]
    · isplitl [H4]; · iexact H4
      isplitl [H5]; · iexact H5
      isplitl [H6]; · iexact H6
      iexact H7
    isplitl [Hs3]; · iexact Hs3
    iexact HO
  iintro %v125 ⟨%h125, ⟨H4, H5, H6, H7⟩, Hh, Hx, Hc1, ⟨%W2, %hW2, HO⟩⟩
  rw [wp_bind]
  iapply (wp_wand (M := 𝕄) Idealize.ShloMosaic.frame) $$ [H4 H5 H6 H7 Hh]
  · iapply (wp_part6 d i ca sa cb sb g1 h125) $$ [H4 H5 H6 H7 Hh]
    isplitl [H4 H5 H6 H7]
    · isplitl [H4]; · iexact H4
      isplitl [H5]; · iexact H5
      isplitl [H6]; · iexact H6
      iexact H7
    iexact Hh
  iintro %v ⟨%hv, ⟨H4, H5, H6, H7⟩, Hh⟩
  obtain ⟨v143, v144, v145, v146, v147, v148, v149, v150, z0, z64⟩ := v
  dsimp only at hv
  obtain ⟨h143, h144, h145, h146, h147, h148, h149, h150, rfl, rfl⟩ := hv
  rw [wp_bind]
  iapply (wp_wand (M := 𝕄) Idealize.ShloMosaic.frame) $$ [H4 H5 H6 H7 Hh]
  · iapply (wp_part7 d i ca sa cb sb g1 h143 h144 h145 h146 h147 h148 h149 h150) $$ [H4 H5 H6 H7 Hh]
    isplitl [H4 H5 H6 H7]
    · isplitl [H4]; · iexact H4
      isplitl [H5]; · iexact H5
      isplitl [H6]; · iexact H6
      iexact H7
    iexact Hh
  iintro %v ⟨%hv, ⟨H4, H5, H6, H7⟩, Hh⟩
  obtain ⟨v170, v171, v172, v173, v174, v175⟩ := v
  dsimp only at hv
  obtain ⟨h170, h171, h172, h173, h174, h175⟩ := hv
  ihave Hmw := (show levAts (K (F := F)).L (K (F := F)).lev ⊢ Transfers.MayWaits (thr d i) (default : HIx 1) O from
    (K (F := F)).mayWaits_none (thr := thr d i) hO) $$ Hlv
  ihave Ho1 := (Entails.of_eq (show (oLoc d ↦[(oChunk i 1).view.set]{fullShare} o : sProp 𝕄) = (oChunk i 1).view.loc (thr d i) ↦[(oChunk i 1).view.set]{fullShare} o from rfl)) $$ Ho1
  sl_exec
  iapply (wp_pair d i (xb := Memref.whole cc0_scratch1) (tab4 d i ca) (tab5 d i sa) (tab6 d i cb) (tab7 d i sb) 7 (by decide) g1 rfl k0_chk31 k0_chk32 k0_chk31.dec k0_chk32.dec rfl rfl
    h170 h171 h172 h173 h174 h175 (group_load _ _ _) (group_load _ _ _) (fun _ _ => ?_)) $$ Hh
  · rfl
  iintro ⟨Hs1, ⟨%fo1, %hfo1, Hs3⟩⟩
  sl_exec
  rw [wp_ret]; imodintro
  ihave Ho0 := (Entails.of_eq (pointsTo_congr (chunk_value d i 0 X ca sa cb sb o _ _ hg0 hw0))) $$ Hf2_dst
  ihave Ho1 := (Entails.of_eq (pointsTo_congr (chunk_value d i 1 X ca sa cb sb o _ _ hg1 hfo1))) $$ Ho1
  isplitl [Hx Hca Hsa Hcb Hsb Ho0 Ho1]
  · isplitl [Hx]; · iexact Hx
    isplitl [Hca]; · iexact Hca
    isplitl [Hsa]; · iexact Hsa
    isplitl [Hcb]; · iexact Hcb
    isplitl [Hsb]; · iexact Hsb
    isplitl [Ho0]; · iexact Ho0
    iexact Ho1
  isplitl [Hs0 Hs1 Hf2_src Hs3 H4 H5 H6 H7 Hbufs]
  · isplitl [Hs0]; · iexists _; iexact Hs0
    isplitl [Hs1]; · iexists _; iexact Hs1
    ihave Hf2_src := (Entails.of_eq (show ((Memref.whole cc0_scratch2).view.loc (thr d i) ↦[(Memref.whole cc0_scratch2).view.set]{fullShare} fo0 : sProp 𝕄) = (Memref.whole cc0_scratch2).view.loc (thr d i) ↦{fullShare} fo0 from congrArg (fun I => iprop((Memref.whole cc0_scratch2).view.loc (thr d i) ↦[I]{fullShare} fo0)) (View.set_whole cc0_scratch2))) $$ Hf2_src
    isplitl [Hf2_src]; · iexists _; iexact Hf2_src
    isplitl [Hs3]; · iexists _; iexact Hs3
    isplitl [H4]; · iexists _; iexact H4
    isplitl [H5]; · iexists _; iexact H5
    isplitl [H6]; · iexists _; iexact H6
    isplitl [H7]; · iexists _; iexact H7
    iexact Hbufs
  isplitl [Hc0 Hc1 Hf2 Hc3 Hc4 Hc5 Hc6 Hc7 Hsems]
  · isplitl [Hc0]; · iexact Hc0
    isplitl [Hc1]; · iexact Hc1
    isplitl [Hf2]; · iexact Hf2
    isplitl [Hc3]; · iexact Hc3
    isplitl [Hc4]; · iexact Hc4
    isplitl [Hc5]; · iexact Hc5
    isplitl [Hc6]; · iexact Hc6
    isplitl [Hc7]; · iexact Hc7
    iexact Hsems
  iexists _; isplitr [HO]
  on_goal 2 => iexact HO
  ipureintro
  intro p hp
  simp only [Finset.mem_insert] at hp
  rcases hp with h | h | h
  · exact Or.inr (h ▸ rfl)
  · exact Or.inr (h ▸ rfl)
  · rcases hW2 p h with h | h
    · exact hW1 p h
    · exact Or.inr h

end Tile

end Cert.Proof.K

end
-- ==== Proof.Launch.lean ====
/-
  The SparseCore call as the launch sees it: what each of the 32 tiles is handed (a share of the five operands and its own
  two chunks of the result), that this is the six buffers whole, split, and that a tile's task does what it is handed for.
  The buffers' contents at the call are a parameter `W`.
-/
module

public import proofs.«01_k».proof.Proof.Body
public import Idealize.ShloMosaic.Lib.ShareLeaves

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The result's chunks: disjoint, and all of it -/

def coordsV (c : Fin (grid0.bound 0)) (s : Fin (grid0.bound 1)) : grid0.Coords :=
  fun | 0 => c | 1 => s | ⟨_ + 2, h⟩ => absurd h (Nat.not_lt.2 (Nat.le_add_left _ _))

section Chunks

variable (d : Dev nD)

/-- The elements of chunk `r` of tile `(c, s)`. -/
abbrev chunkSet (t : (Fin 2 × Fin 16) × Fin 2) : Finset (Idx (oLoc d)) := (oChunk (coordsV t.1.1 t.1.2) t.2).view.set

theorem mem_chunkSet (t : (Fin 2 × Fin 16) × Fin 2) (x : S1048576.Idx) :
    x ∈ chunkSet d t ↔ (x 0).val / 16384 = 4 * t.1.2.val + 2 * t.1.1.val + t.2.val := by
  obtain ⟨⟨c, s⟩, r⟩ := t
  have hb : base (coordsV c s) r = 16384 * (4 * s.val + 2 * c.val + r.val) := by
    show 65536 * s.val + 32768 * c.val + 16384 * r.val = _
    omega
  constructor
  · intro hx
    obtain ⟨y, -, rfl⟩ := Finset.mem_map.mp hx
    have e := emb_oChunk (coordsV c s) r y
    have hy : (y 0).val < 16384 := (y 0).isLt
    show (((oChunk (coordsV c s) r).view.emb y : S1048576.Idx) 0).val / 16384 = 4 * s.val + 2 * c.val + r.val
    rw [e, hb]; omega
  · intro hx
    have hx' : (x 0).val / 16384 = 4 * s.val + 2 * c.val + r.val := hx
    refine Finset.mem_map.mpr ⟨(fun a => match a with | 0 => ⟨(x 0).val % 16384, Nat.mod_lt _ (by decide)⟩ : S16384.Idx), Finset.mem_univ _, ?_⟩
    funext a
    match a with
    | 0 =>
      refine Fin.ext ((emb_oChunk (coordsV c s) r _).trans ?_)
      show base (coordsV c s) r + (x 0).val % 16384 = (x 0).val
      rw [hb]; omega

theorem chunks_disjoint : ∀ t ∈ (Finset.univ : Finset ((Fin 2 × Fin 16) × Fin 2)), ∀ t' ∈ (Finset.univ : Finset ((Fin 2 × Fin 16) × Fin 2)),
    t ≠ t' → Disjoint (chunkSet d t) (chunkSet d t') := by
  intro t _ t' _ hne
  refine Finset.disjoint_left.mpr fun x hx hx' => hne ?_
  have e := (mem_chunkSet d t x).mp hx
  have e' := (mem_chunkSet d t' x).mp hx'
  obtain ⟨⟨c, s⟩, r⟩ := t
  obtain ⟨⟨c', s'⟩, r'⟩ := t'
  have h1 := c.isLt; have h2 := c'.isLt; have h3 := r.isLt; have h4 := r'.isLt
  dsimp only at e e'
  have hs : s = s' := Fin.ext (by omega)
  have hc : c = c' := Fin.ext (by omega)
  have hr : r = r' := Fin.ext (by omega)
  rw [hs, hc, hr]

theorem chunks_cover : (Finset.univ : Finset ((Fin 2 × Fin 16) × Fin 2)).biUnion (chunkSet d) = Finset.univ := by
  refine Finset.eq_univ_iff_forall.mpr fun x => Finset.mem_biUnion.mpr ?_
  have hx : ((x : S1048576.Idx) 0).val < 1048576 := ((x : S1048576.Idx) 0).isLt
  refine ⟨((⟨((x : S1048576.Idx) 0).val / 32768 % 2, by omega⟩, ⟨((x : S1048576.Idx) 0).val / 65536, by omega⟩),
    ⟨((x : S1048576.Idx) 0).val / 16384 % 2, by omega⟩), Finset.mem_univ _, (mem_chunkSet d _ x).mpr ?_⟩
  show ((x : S1048576.Idx) 0).val / 16384 = 4 * (((x : S1048576.Idx) 0).val / 65536) + 2 * (((x : S1048576.Idx) 0).val / 32768 % 2) + ((x : S1048576.Idx) 0).val / 16384 % 2
  omega

end Chunks

/-! ## Full shares are the tiles' shares -/

/-- Tile `(c, s)`'s share of an operand. -/
def tileShare (c : Fin 2) (s : Fin 16) : PosShare TreeShare := leaf 4 (leaf 1 fullShare c) s

theorem shares (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [pointsTo_leaves _ f 1 fullShare]
  exact bigSep_congr fun c _ => pointsTo_leaves _ f 4 _

theorem chunks (d : Dev nD) (o : Buf (Elt F) (oLoc d)) :
    (oLoc d ↦{fullShare} o : sProp 𝕄) = bigSep Finset.univ fun c : Fin 2 => bigSep Finset.univ fun s : Fin 16 =>
      iprop((oLoc d ↦[(oChunk (coordsV c s) 0).view.set]{fullShare} o) ∗ (oLoc d ↦[(oChunk (coordsV c s) 1).view.set]{fullShare} o)) := by
  have h : (oLoc d ↦[Finset.univ.biUnion (chunkSet d)]{fullShare} o : sProp 𝕄) = _ := pointsTo_biUnion Finset.univ (chunkSet d) (chunks_disjoint d)
  rw [chunks_cover d] at h
  refine h.trans ?_
  rw [bigSep_univ_prod, bigSep_univ_prod]
  exact bigSep_congr fun c _ => bigSep_congr fun s _ => bigSep_univ_two _

/-- The six buffers whole are the 32 tiles' parts. -/
theorem tiles_eq (d : Dev nD) (X : Buf (Elt F) (xLoc d)) (ca : Buf (Elt F) (caLoc d)) (sa : Buf (Elt F) (saLoc d))
    (cb : Buf (Elt F) (cbLoc d)) (sb : Buf (Elt F) (sbLoc d)) (o : Buf (Elt F) (oLoc d)) :
    (bigSep Finset.univ fun c : Fin 2 => bigSep Finset.univ fun s : Fin 16 => tileIn d (coordsV c s) (tileShare c s) X ca sa cb sb o : sProp 𝕄)
      = iprop((xLoc d ↦{fullShare} X) ∗ (caLoc d ↦{fullShare} ca) ∗ (saLoc d ↦{fullShare} sa) ∗ (cbLoc d ↦{fullShare} cb)
        ∗ (sbLoc d ↦{fullShare} sb) ∗ oLoc d ↦{fullShare} o) := by
  rw [shares (xLoc d), shares (caLoc d), shares (saLoc d), shares (cbLoc d), shares (sbLoc d), chunks d]
  simp only [← bigSep_sep']
  try rfl

/-! ## What the call carries -/

variable (W : (d : Dev nD) → Valuation τ sig (Elt F))

/-- The call's result at the contents `W`. -/
def scRes (d : Dev nD) : Buf (Elt F) (oLoc d) :=
  scOut d (W d (Proc.devRef .tc main_v77)) (W d (Proc.devRef .tc main_v21)) (W d (Proc.devRef .tc main_v24))
    (W d (Proc.devRef .tc main_v45)) (W d (Proc.devRef .tc main_v48))

/-- What tile `(c, s)` holds, with its chunks of the result at `o`. -/
abbrev tileAt (d : Dev nD) (c : Fin 2) (s : Fin 16) (o : Buf (Elt F) (oLoc d)) : sProp 𝕄 :=
  tileIn d (coordsV c s) (tileShare c s) (W d (Proc.devRef .tc main_v77)) (W d (Proc.devRef .tc main_v21)) (W d (Proc.devRef .tc main_v24))
    (W d (Proc.devRef .tc main_v45)) (W d (Proc.devRef .tc main_v48)) o

def P : (K (F := F)).Pay (nD := nD) (Val := Elt F) (Name := ℕ) (U := UU) where
  st := fun q d c => match q with
    | 0 => bigSep Finset.univ fun i : Fin 16 => tileAt W d (Fin.cast nCore_zero c) i (W d (Proc.devRef .tc main_v78))
  dn := fun q d c => match q with
    | 0 => bigSep Finset.univ fun i : Fin 16 => tileAt W d (Fin.cast nCore_zero c) i (scRes W d)
  go := fun q d c i => match q with
    | 0 => tileAt W d (Fin.cast nCore_zero c) (Fin.cast nSub_zero i) (W d (Proc.devRef .tc main_v78))
  td := fun q d c i => match q with
    | 0 => tileAt W d (Fin.cast nCore_zero c) (Fin.cast nSub_zero i) (scRes W d)
  x := fun _ _ => iprop(emp)

instance tileIn_storable (d : Dev nD) (i : grid0.Coords) (q : PosShare TreeShare) (X : Buf (Elt F) (xLoc d)) (ca : Buf (Elt F) (caLoc d))
    (sa : Buf (Elt F) (saLoc d)) (cb : Buf (Elt F) (cbLoc d)) (sb : Buf (Elt F) (sbLoc d)) (o : Buf (Elt F) (oLoc d)) :
    BI.Storable (upEmb : UEmb _ 𝕄) (tileIn d i q X ca sa cb sb o) := by
  unfold tileIn; infer_instance

theorem tiles_storable (d : Dev nD) (c : Fin 2) (o : Buf (Elt F) (oLoc d)) :
    BI.Storable (upEmb : UEmb _ 𝕄) (bigSep Finset.univ fun i : Fin 16 => tileAt W d c i o) :=
  haveI : ∀ i : Fin 16, BI.Storable (upEmb : UEmb _ 𝕄) (tileAt W d c i o) := fun i => tileIn_storable d _ _ _ _ _ _ _ _
  BI.Storable.bigSep _ _ _

instance P_storable : (P W).IsStorable where
  st q d c := match q with
    | 0 => tiles_storable W d _ _
  dn q d c := match q with
    | 0 => tiles_storable W d _ _
  go q d c i := match q with
    | 0 => tileIn_storable d _ _ _ _ _ _ _ _
  td q d c i := match q with
    | 0 => tileIn_storable d _ _ _ _ _ _ _ _

theorem bigSep_tasks (Φ : Fin 16 → sProp 𝕄) :
    (bigSep Finset.univ fun i : Fin ((K (F := F)).nSub 0) => Φ (Fin.cast nSub_zero i)) = bigSep Finset.univ Φ := rfl

theorem vecSplit : (K (F := F)).VecSplit' (P W) 0 := by
  intro d c
  show (bigSep Finset.univ fun i : Fin 16 => tileAt W d (Fin.cast nCore_zero c) i (W d (Proc.devRef .tc main_v78)))
    ⊢ |={Set.univ}=> iprop(
      (bigSep Finset.univ fun i : Fin ((K (F := F)).nSub 0) => tileAt W d (Fin.cast nCore_zero c) (Fin.cast nSub_zero i) (W d (Proc.devRef .tc main_v78)))
      ∗ ((bigSep Finset.univ fun i : Fin ((K (F := F)).nSub 0) => tileAt W d (Fin.cast nCore_zero c) (Fin.cast nSub_zero i) (scRes W d))
        -∗ bigSep Finset.univ fun i : Fin 16 => tileAt W d (Fin.cast nCore_zero c) i (scRes W d)))
  rw [bigSep_tasks (F := F) (fun i => tileAt W d (Fin.cast nCore_zero c) i (W d (Proc.devRef .tc main_v78))),
    bigSep_tasks (F := F) (fun i => tileAt W d (Fin.cast nCore_zero c) i (scRes W d))]
  iintro H; imodintro
  isplitl [H]; · iexact H
  iintro H; iexact H

/-- What the call takes, and what it hands back, are the six buffers whole. -/
theorem st_eq (d : Dev nD) : (bigSep Finset.univ fun c : Fin ((K (F := F)).nCore 0) => (P W).st 0 d c)
    = iprop((xLoc d ↦{fullShare} W d (Proc.devRef .tc main_v77)) ∗ (caLoc d ↦{fullShare} W d (Proc.devRef .tc main_v21))
      ∗ (saLoc d ↦{fullShare} W d (Proc.devRef .tc main_v24)) ∗ (cbLoc d ↦{fullShare} W d (Proc.devRef .tc main_v45))
      ∗ (sbLoc d ↦{fullShare} W d (Proc.devRef .tc main_v48)) ∗ oLoc d ↦{fullShare} W d (Proc.devRef .tc main_v78)) :=
  tiles_eq d _ _ _ _ _ _
theorem dn_eq (d : Dev nD) : (bigSep Finset.univ fun c : Fin ((K (F := F)).nCore 0) => (P W).dn 0 d c)
    = iprop((xLoc d ↦{fullShare} W d (Proc.devRef .tc main_v77)) ∗ (caLoc d ↦{fullShare} W d (Proc.devRef .tc main_v21))
      ∗ (saLoc d ↦{fullShare} W d (Proc.devRef .tc main_v24)) ∗ (cbLoc d ↦{fullShare} W d (Proc.devRef .tc main_v45))
      ∗ (sbLoc d ↦{fullShare} W d (Proc.devRef .tc main_v48)) ∗ oLoc d ↦{fullShare} scRes W d) :=
  tiles_eq d _ _ _ _ _ _

/-! ## A tile's task -/

theorem defs₀_vector (c : Fin τ.nSC) (s : Fin τ.nSub) :
    defs₀ (F := F) (.scVector c s) 0 () = SparseCore.onTile hcore0 hsub0 (fun c s =>
      cc0__sc_body (coordsV c s) (Memref.whole main_v77_scv) (Memref.isWhole_whole _) (Memref.whole main_v21_scv) (Memref.isWhole_whole _)
        (Memref.whole main_v24_scv) (Memref.isWhole_whole _) (Memref.whole main_v45_scv) (Memref.isWhole_whole _)
        (Memref.whole main_v48_scv) (Memref.isWhole_whole _) (Memref.whole main_v78_scv) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (Memref.whole cc0_scratch7) (Memref.isWhole_whole _)
        cc0_scratch8 cc0_scratch9 cc0_scratch10 cc0_scratch11 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P W) v₀ 0 := by
  intro d c i O Wt hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF O Wt hO _ _ _ _ _ _ _).trans (wp_mono frame _ _ fun _ => obl_post)

end Cert.Proof.K

end
-- ==== Proof.Host.lean ====
/-
  @main's host operations, as lists: the stretch before the SparseCore call (the tables of cosines and sines, the dense
  rotation matrix, the input as one vector) and the one after the TensorCore call (the SparseCore's rows written over the
  TensorCore's). @main is those two stretches with the two calls between (`main_chain`).
-/
module

public import proofs.«01_k».proof.Proof.Launch
public import Idealize.ShloMosaic.Lib.StableHlo.Run
public import Idealize.ShloMosaic.Lib.StableHlo.RunRead
public import Idealize.ShloMosaic.Lib.Pipeline.Regions

@[expose] public section

noncomputable section

namespace Cert.Proof.K

open Cert.KernelIdeal Cert.KernelIdeal.Gen

open Idealize.ShloMosaic
open Idealize.ShloMosaic.StableHlo
open Idealize.SL Idealize.SL.Sem

variable {F : FTy → Type} [FloatOps F]

abbrev hostOps0 : List (HloOp τ sig (Elt F)) :=
  [ StableHlo.nullary main_v0 (iotaInDim S256 32 0),
    StableHlo.unary main_arg1 main_v1 ((extractStridedSlice S12x128 ![0, 0] · slices_S24x128_S12x128_0_0) : (⟨S24x128, .f32⟩ : BufTy).Contents (Elt F) → (⟨S12x128, .f32⟩ : BufTy).Contents (Elt F)),
    StableHlo.nullary main_cst (constant S_ .f32 0x00000000#32),
    StableHlo.binary main_v1 main_cst main_v2 ((fun x v => Host.reduceAdd x v reducesTo_S12x128_S128_d0 h_S_) : (⟨S12x128, .f32⟩ : BufTy).Contents (Elt F) → (⟨S_, .f32⟩ : BufTy).Contents (Elt F) → (⟨S128, .f32⟩ : BufTy).Contents (Elt F)),
    StableHlo.unary main_arg2 main_v3 ((Host.slice S128 ![0] ![2] · slicesBy_S256_S128_0s2) : (⟨S256, .i32⟩ : BufTy).Contents (Elt F) → (⟨S128, .i32⟩ : BufTy).Contents (Elt F)),
    StableHlo.unary main_arg2 main_v4 ((Host.slice S128 ![1] ![2] · slicesBy_S256_S128_1s2) : (⟨S256, .i32⟩ : BufTy).Contents (Elt F) → (⟨S128, .i32⟩ : BufTy).Contents (Elt F)),
    StableHlo.unary main_v2 main_v5 (Host.cos : (⟨S128, .f32⟩ : BufTy).Contents (Elt F) → (⟨S128, .f32⟩ : BufTy).Contents (Elt F)),
    StableHlo.unary main_v2 main_v6 (Host.sin : (⟨S128, .f32⟩ : BufTy).Contents (Elt F) → (⟨S128, .f32⟩ : BufTy).Contents (Elt F)),
    StableHlo.unary main_v3 main_v7 (broadcastInDim S128x1 ![0] bcast_S128_S128x1_0 : (⟨S128, .i32⟩ : BufTy).Contents (Elt F) → (⟨S128x1, .i32⟩ : BufTy).Contents (Elt F)),
    StableHlo.unary main_v0 main_v8 (broadcastInDim S1x256 ![1] bcast_S256_S1x256_1 : (⟨S256, .i32⟩ : BufTy).Contents (Elt F) → (⟨S1x256, .i32⟩ : BufTy).Contents (Elt F)),
    StableHlo.unary main_v7 main_v9 (broadcastInDim S128x256 ![0, 1] bcast_S128x1_S128x256_0_1 : (⟨S128x1, .i32⟩ : BufTy).Contents (Elt F) → (⟨S128x256, .i32⟩ : BufTy).Contents (Elt F)),
    StableHlo.unary main_v8 main_v10 (broadcastInDim S128x256 ![0, 1] bcast_S1x256_S128x256_0_1 : (⟨S1x256, .i32⟩ : BufTy).Contents (Elt F) → (⟨S128x256, .i32⟩ : BufTy).Contents (Elt F)),
    StableHlo.binary main_v9 main_v10 main_v11 (cmpi .eq : (⟨S128x256, .i32⟩ : BufTy).Contents (Elt F) → (⟨S128x256, .i32⟩ : BufTy).Contents (Elt F) → (⟨S128x256, .i1⟩ : BufTy).Contents (Elt F)),
    StableHlo.unary main_v11 main_v12 (uitofp .f32 : (⟨S128x256, .i1⟩ : BufTy).Contents (Elt F) → (⟨S128x256, .f32⟩ : BufTy).Contents (Elt F)),
    StableHlo.unary main_v4 main_v13 (broadcastInDim S128x1 ![0] bcast_S128_S128x1_0 : (⟨S128, .i32⟩ : BufTy).Contents (Elt F) → (⟨S128x1, .i32⟩ : BufTy).Contents (Elt F)),
    StableHlo.unary main_v0 main_v14 (broadcastInDim S1x256 ![1] bcast_S256_S1x256_1 : (⟨S256, .i32⟩ : BufTy).Contents (Elt F) → (⟨S1x256, .i32⟩ : BufTy).Contents (Elt F)),
    StableHlo.unary main_v13 main_v15 (broadcastInDim S128x256 ![0, 1] bcast_S128x1_S128x256_0_1 : (⟨S128x1, .i32⟩ : BufTy).Contents (Elt F) → (⟨S128x256, .i32⟩ : BufTy).Contents (Elt F)),
    StableHlo.unary main_v14 main_v16 (broadcastInDim S128x256 ![0, 1] bcast_S1x256_S128x256_0_1 : (⟨S1x256, .i32⟩ : BufTy).Contents (Elt F) → (⟨S128x256, .i32⟩ : BufTy).Contents (Elt F)),
    StableHlo.binary main_v15 main_v16 main_v17 (cmpi .eq : (⟨S128x256, .i32⟩ : BufTy).Contents (Elt F) → (⟨S128x256, .i32⟩ : BufTy).Contents (Elt F) → (⟨S128x256, .i1⟩ : BufTy).Contents (Elt F)),
    StableHlo.unary main_v17 main_v18 (uitofp .f32 : (⟨S128x256, .i1⟩ : BufTy).Contents (Elt F) → (⟨S128x256, .f32⟩ : BufTy).Contents (Elt F)),
    StableHlo.binary main_v5 main_v12 main_v19 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v5 main_v18 main_v20 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v19 main_v20 main_v21 (addf : (⟨S256, .f32⟩ : BufTy).Contents (Elt F) → (⟨S256, .f32⟩ : BufTy).Contents (Elt F) → (⟨S256, .f32⟩ : BufTy).Contents (Elt F)),
    StableHlo.binary main_v6 main_v12 main_v22 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v6 main_v18 main_v23 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v22 main_v23 main_v24 (subf : (⟨S256, .f32⟩ : BufTy).Contents (Elt F) → (⟨S256, .f32⟩ : BufTy).Contents (Elt F) → (⟨S256, .f32⟩ : BufTy).Contents (Elt F)),
    StableHlo.unary main_arg1 main_v25 ((extractStridedSlice S12x128 ![12, 0] · slices_S24x128_S12x128_12_0) : (⟨S24x128, .f32⟩ : BufTy).Contents (Elt F) → (⟨S12x128, .f32⟩ : BufTy).Contents (Elt F)),
    StableHlo.nullary main_cst_0 (constant S_ .f32 0x00000000#32),
    StableHlo.binary main_v25 main_cst_0 main_v26 ((fun x v => Host.reduceAdd x v reducesTo_S12x128_S128_d0 h_S_) : (⟨S12x128, .f32⟩ : BufTy).Contents (Elt F) → (⟨S_, .f32⟩ : BufTy).Contents (Elt F) → (⟨S128, .f32⟩ : BufTy).Contents (Elt F)),
    StableHlo.unary main_arg3 main_v27 ((Host.slice S128 ![0] ![2] · slicesBy_S256_S128_0s2) : (⟨S256, .i32⟩ : BufTy).Contents (Elt F) → (⟨S128, .i32⟩ : BufTy).Contents (Elt F)),
    StableHlo.unary main_arg3 main_v28 ((Host.slice S128 ![1] ![2] · slicesBy_S256_S128_1s2) : (⟨S256, .i32⟩ : BufTy).Contents (Elt F) → (⟨S128, .i32⟩ : BufTy).Contents (Elt F)),
    StableHlo.unary main_v26 main_v29 (Host.cos : (⟨S128, .f32⟩ : BufTy).Contents (Elt F) → (⟨S128, .f32⟩ : BufTy).Contents (Elt F)),
    StableHlo.unary main_v26 main_v30 (Host.sin : (⟨S128, .f32⟩ : BufTy).Contents (Elt F) → (⟨S128, .f32⟩ : BufTy).Contents (Elt F)),
    StableHlo.unary main_v27 main_v31 (broadcastInDim S128x1 ![0] bcast_S128_S128x1_0 : (⟨S128, .i32⟩ : BufTy).Contents (Elt F) → (⟨S128x1, .i32⟩ : BufTy).Contents (Elt F)),
    StableHlo.unary main_v0 main_v32 (broadcastInDim S1x256 ![1] bcast_S256_S1x256_1 : (⟨S256, .i32⟩ : BufTy).Contents (Elt F) → (⟨S1x256, .i32⟩ : BufTy).Contents (Elt F)),
    StableHlo.unary main_v31 main_v33 (broadcastInDim S128x256 ![0, 1] bcast_S128x1_S128x256_0_1 : (⟨S128x1, .i32⟩ : BufTy).Contents (Elt F) → (⟨S128x256, .i32⟩ : BufTy).Contents (Elt F)),
    StableHlo.unary main_v32 main_v34 (broadcastInDim S128x256 ![0, 1] bcast_S1x256_S128x256_0_1 : (⟨S1x256, .i32⟩ : BufTy).Contents (Elt F) → (⟨S128x256, .i32⟩ : BufTy).Contents (Elt F)),
    StableHlo.binary main_v33 main_v34 main_v35 (cmpi .eq : (⟨S128x256, .i32⟩ : BufTy).Contents (Elt F) → (⟨S128x256, .i32⟩ : BufTy).Contents (Elt F) → (⟨S128x256, .i1⟩ : BufTy).Contents (Elt F)),
    StableHlo.unary main_v35 main_v36 (uitofp .f32 : (⟨S128x256, .i1⟩ : BufTy).Contents (Elt F) → (⟨S128x256, .f32⟩ : BufTy).Contents (Elt F)),
    StableHlo.unary main_v28 main_v37 (broadcastInDim S128x1 ![0] bcast_S128_S128x1_0 : (⟨S128, .i32⟩ : BufTy).Contents (Elt F) → (⟨S128x1, .i32⟩ : BufTy).Contents (Elt F)),
    StableHlo.unary main_v0 main_v38 (broadcastInDim S1x256 ![1] bcast_S256_S1x256_1 : (⟨S256, .i32⟩ : BufTy).Contents (Elt F) → (⟨S1x256, .i32⟩ : BufTy).Contents (Elt F)),
    StableHlo.unary main_v37 main_v39 (broadcastInDim S128x256 ![0, 1] bcast_S128x1_S128x256_0_1 : (⟨S128x1, .i32⟩ : BufTy).Contents (Elt F) → (⟨S128x256, .i32⟩ : BufTy).Contents (Elt F)),
    StableHlo.unary main_v38 main_v40 (broadcastInDim S128x256 ![0, 1] bcast_S1x256_S128x256_0_1 : (⟨S1x256, .i32⟩ : BufTy).Contents (Elt F) → (⟨S128x256, .i32⟩ : BufTy).Contents (Elt F)),
    StableHlo.binary main_v39 main_v40 main_v41 (cmpi .eq : (⟨S128x256, .i32⟩ : BufTy).Contents (Elt F) → (⟨S128x256, .i32⟩ : BufTy).Contents (Elt F) → (⟨S128x256, .i1⟩ : BufTy).Contents (Elt F)),
    StableHlo.unary main_v41 main_v42 (uitofp .f32 : (⟨S128x256, .i1⟩ : BufTy).Contents (Elt F) → (⟨S128x256, .f32⟩ : BufTy).Contents (Elt F)),
    StableHlo.binary main_v29 main_v36 main_v43 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v29 main_v42 main_v44 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v43 main_v44 main_v45 (addf : (⟨S256, .f32⟩ : BufTy).Contents (Elt F) → (⟨S256, .f32⟩ : BufTy).Contents (Elt F) → (⟨S256, .f32⟩ : BufTy).Contents (Elt F)),
    StableHlo.binary main_v30 main_v36 main_v46 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v30 main_v42 main_v47 ((fun l r => Host.dotGeneral dot_S128_S128x256_S256_0_0_n_1_n_n (some .fp32) l r) : (⟨S128, .f32⟩ : BufTy).Contents (Elt F) → (⟨S128x256, .f32⟩ : BufTy).Contents (Elt F) → (⟨S256, .f32⟩ : BufTy).Contents (Elt F)),
    StableHlo.binary main_v46 main_v47 main_v48 (subf : (⟨S256, .f32⟩ : BufTy).Contents (Elt F) → (⟨S256, .f32⟩ : BufTy).Contents (Elt F) → (⟨S256, .f32⟩ : BufTy).Contents (Elt F)),
    StableHlo.nullary main_v49 (iotaInDim S256 32 0),
    StableHlo.unary main_v49 main_v50 (broadcastInDim S256x1 ![0] bcast_S256_S256x1_0 : (⟨S256, .i32⟩ : BufTy).Contents (Elt F) → (⟨S256x1, .i32⟩ : BufTy).Contents (Elt F)),
    StableHlo.nullary main_c (constantI S_ 32 1#32),
    StableHlo.unary main_c main_v51 (broadcastInDim S256 ![] bcast_S_S256 : (⟨S_, .i32⟩ : BufTy).Contents (Elt F) → (⟨S256, .i32⟩ : BufTy).Contents (Elt F)),
    StableHlo.binary main_v49 main_v51 main_v52 (xori : (⟨S256, .i32⟩ : BufTy).Contents (Elt F) → (⟨S256, .i32⟩ : BufTy).Contents (Elt F) → (⟨S256, .i32⟩ : BufTy).Contents (Elt F)),
    StableHlo.unary main_v52 main_v53 (broadcastInDim S1x256 ![1] bcast_S256_S1x256_1 : (⟨S256, .i32⟩ : BufTy).Contents (Elt F) → (⟨S1x256, .i32⟩ : BufTy).Contents (Elt F)),
    StableHlo.unary main_v50 main_v54 (broadcastInDim S256x256 ![0, 1] bcast_S256x1_S256x256_0_1 : (⟨S256x1, .i32⟩ : BufTy).Contents (Elt F) → (⟨S256x256, .i32⟩ : BufTy).Contents (Elt F)),
    StableHlo.unary main_v53 main_v55 (broadcastInDim S256x256 ![0, 1] bcast_S1x256_S256x256_0_1 : (⟨S1x256, .i32⟩ : BufTy).Contents (Elt F) → (⟨S256x256, .i32⟩ : BufTy).Contents (Elt F)),
    StableHlo.binary main_v54 main_v55 main_v56 (cmpi .eq : (⟨S256x256, .i32⟩ : BufTy).Contents (Elt F) → (⟨S256x256, .i32⟩ : BufTy).Contents (Elt F) → (⟨S256x256, .i1⟩ : BufTy).Contents (Elt F)) ]

/-- What they write. -/
abbrev hostOps0Refs : List (Ref sig .tc) :=
  [main_v0, main_v1, main_cst, main_v2, main_v3, main_v4, main_v5, main_v6, main_v7, main_v8, main_v9, main_v10, main_v11, main_v12, main_v13, main_v14, main_v15, main_v16, main_v17, main_v18, main_v19, main_v20, main_v21, main_v22, main_v23, main_v24, main_v25, main_cst_0, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_c, main_v51, main_v52, main_v53, main_v54, main_v55, main_v56]

abbrev hostOps1 : List (HloOp τ sig (Elt F)) :=
  [ StableHlo.unary main_v56 main_v57 (uitofp .f32 : (⟨S256x256, .i1⟩ : BufTy).Contents (Elt F) → (⟨S256x256, .f32⟩ : BufTy).Contents (Elt F)),
    StableHlo.unary main_v49 main_v58 (broadcastInDim S256x1 ![0] bcast_S256_S256x1_0 : (⟨S256, .i32⟩ : BufTy).Contents (Elt F) → (⟨S256x1, .i32⟩ : BufTy).Contents (Elt F)),
    StableHlo.nullary main_c_1 (constantI S_ 32 128#32),
    StableHlo.unary main_c_1 main_v59 (broadcastInDim S256 ![] bcast_S_S256 : (⟨S_, .i32⟩ : BufTy).Contents (Elt F) → (⟨S256, .i32⟩ : BufTy).Contents (Elt F)),
    StableHlo.binary main_v49 main_v59 main_v60 (xori : (⟨S256, .i32⟩ : BufTy).Contents (Elt F) → (⟨S256, .i32⟩ : BufTy).Contents (Elt F) → (⟨S256, .i32⟩ : BufTy).Contents (Elt F)),
    StableHlo.unary main_v60 main_v61 (broadcastInDim S1x256 ![1] bcast_S256_S1x256_1 : (⟨S256, .i32⟩ : BufTy).Contents (Elt F) → (⟨S1x256, .i32⟩ : BufTy).Contents (Elt F)),
    StableHlo.unary main_v58 main_v62 (broadcastInDim S256x256 ![0, 1] bcast_S256x1_S256x256_0_1 : (⟨S256x1, .i32⟩ : BufTy).Contents (Elt F) → (⟨S256x256, .i32⟩ : BufTy).Contents (Elt F)),
    StableHlo.unary main_v61 main_v63 (broadcastInDim S256x256 ![0, 1] bcast_S1x256_S256x256_0_1 : (⟨S1x256, .i32⟩ : BufTy).Contents (Elt F) → (⟨S256x256, .i32⟩ : BufTy).Contents (Elt F)),
    StableHlo.binary main_v62 main_v63 main_v64 (cmpi .eq : (⟨S256x256, .i32⟩ : BufTy).Contents (Elt F) → (⟨S256x256, .i32⟩ : BufTy).Contents (Elt F) → (⟨S256x256, .i1⟩ : BufTy).Contents (Elt F)),
    StableHlo.unary main_v64 main_v65 (uitofp .f32 : (⟨S256x256, .i1⟩ : BufTy).Contents (Elt F) → (⟨S256x256, .f32⟩ : BufTy).Contents (Elt F)) ]

/-- What they write. -/
abbrev hostOps1Refs : List (Ref sig .tc) :=
  [main_v57, main_v58, main_c_1, main_v59, main_v60, main_v61, main_v62, main_v63, main_v64, main_v65]

abbrev hostOps2 : List (HloOp τ sig (Elt F)) :=
  [ StableHlo.unary main_v24 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S256x256 ![0, 1] bcast_S1x256_S256x256_0_1 : (⟨S1x256, .f32⟩ : BufTy).Contents (Elt F) → (⟨S256x256, .f32⟩ : BufTy).Contents (Elt F)),
    StableHlo.binary main_v68 main_v57 main_v69 (mulf : (⟨S256x256, .f32⟩ : BufTy).Contents (Elt F) → (⟨S256x256, .f32⟩ : BufTy).Contents (Elt F) → (⟨S256x256, .f32⟩ : BufTy).Contents (Elt F)),
    StableHlo.binary main_v66 main_v69 main_v70 (addf : (⟨S256x256, .f32⟩ : BufTy).Contents (Elt F) → (⟨S256x256, .f32⟩ : BufTy).Contents (Elt F) → (⟨S256x256, .f32⟩ : BufTy).Contents (Elt F)) ]

/-- What they write. -/
abbrev hostOps2Refs : List (Ref sig .tc) :=
  [main_v67, main_v68, main_v69, main_v70]

abbrev hostOps3 : List (HloOp τ sig (Elt F)) :=
  [ StableHlo.unary main_v48 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S256x256 ![0, 1] bcast_S1x256_S256x256_0_1 : (⟨S1x256, .f32⟩ : BufTy).Contents (Elt F) → (⟨S256x256, .f32⟩ : BufTy).Contents (Elt F)),
    StableHlo.binary main_v73 main_v65 main_v74 (mulf : (⟨S256x256, .f32⟩ : BufTy).Contents (Elt F) → (⟨S256x256, .f32⟩ : BufTy).Contents (Elt F) → (⟨S256x256, .f32⟩ : BufTy).Contents (Elt F)),
    StableHlo.binary main_v71 main_v74 main_v75 (addf : (⟨S256x256, .f32⟩ : BufTy).Contents (Elt F) → (⟨S256x256, .f32⟩ : BufTy).Contents (Elt F) → (⟨S256x256, .f32⟩ : BufTy).Contents (Elt F)),
    StableHlo.binary main_v70 main_v75 main_v76 ((fun l r => Host.dotGeneral dot_S256x256_S256x256_S256x256_1_0_0_1_n_n (some .fp32) l r) : (⟨S256x256, .f32⟩ : BufTy).Contents (Elt F) → (⟨S256x256, .f32⟩ : BufTy).Contents (Elt F) → (⟨S256x256, .f32⟩ : BufTy).Contents (Elt F)),
    StableHlo.reshape main_arg0 main_v77 (rfl : (.f32 : EltTy) = .f32) shapeCasts_S32768x256_S8388608 ]

/-- What they write. -/
abbrev hostOps3Refs : List (Ref sig .tc) :=
  [main_v72, main_v73, main_v74, main_v75, main_v76, main_v77]

abbrev hostOps4 : List (HloOp τ sig (Elt F)) :=
  [ StableHlo.reshape main_v78 main_v80 (rfl : (.f32 : EltTy) = .f32) shapeCasts_S1048576_S4096x256,
    StableHlo.nullary main_c_2 (constantI S_ 32 0#32),
    StableHlo.nullary main_c_3 (constantI S_ 32 0#32),
    StableHlo.binaryIndexed main_v79 main_v80 ![main_c_2, main_c_3] ⟨S_, .i32⟩ main_v81 ((fun x u i => Host.dynamicUpdateSlice x u (fun k => (i k (Shape.Idx.first h_S_)).toInt) updateFits_S32768x256_S4096x256) : (⟨S32768x256, .f32⟩ : BufTy).Contents (Elt F) → (⟨S4096x256, .f32⟩ : BufTy).Contents (Elt F) → (Fin 2 → (⟨S_, .i32⟩ : BufTy).Contents (Elt F)) → (⟨S32768x256, .f32⟩ : BufTy).Contents (Elt F)) ]

/-- What they write. -/
abbrev hostOps4Refs : List (Ref sig .tc) :=
  [main_v80, main_c_2, main_c_3, main_v81]

/-- The operations of one `diag` call: its argument `arg0` and its buffers `φ`. -/
abbrev diagOps (arg0 : StableHlo.TRef sig ⟨S256, .f32⟩) (φ : fn_diag.Bufs) : List (HloOp τ sig (Elt F)) :=
  [ StableHlo.TRef.nullary φ.cst (constant S_ .f32 0x00000000#32),
    StableHlo.TRef.binary arg0 φ.cst φ.v0 (fun x v => pad S256 ![0] ![0] ![0] x v pads_S256_S256_000 h_S_),
    StableHlo.TRef.nullary φ.v1 (iotaInDim S256x256 32 0),
    StableHlo.TRef.nullary φ.v2 (iotaInDim S256x256 32 1),
    StableHlo.TRef.nullary φ.c (constantI S_ 32 0#32),
    StableHlo.TRef.unary φ.c φ.v3 (broadcastInDim S256x256 ![] bcast_S_S256x256),
    StableHlo.TRef.binary φ.v1 φ.v3 φ.v4 addi,
    StableHlo.TRef.binary φ.v4 φ.v2 φ.v5 (cmpi .eq),
    StableHlo.TRef.unary φ.v0 φ.v6 (broadcastInDim S256x1 ![0] bcast_S256_S256x1_0),
    StableHlo.TRef.nullary φ.cst_0 (constant S_ .f32 0x00000000#32),
    StableHlo.TRef.unary φ.v6 φ.call0.v0 (broadcastInDim S256x256 ![0, 1] bcast_S256x1_S256x256_0_1),
    StableHlo.TRef.unary φ.cst_0 φ.call0.v1 (broadcastInDim S256x256 ![] bcast_S_S256x256),
    StableHlo.TRef.ternary φ.v5 φ.call0.v0 φ.call0.v1 φ.call0.v2 select ]

/-- What call 0 of it writes. -/
abbrev diag0Refs : List (Ref sig .tc) :=
  [main_call0_cst, main_call0_v0, main_call0_v1, main_call0_v2, main_call0_c, main_call0_v3, main_call0_v4, main_call0_v5, main_call0_v6, main_call0_cst_0, main_call0_call0_v0, main_call0_call0_v1, main_v66]

/-- What call 1 of it writes. -/
abbrev diag1Refs : List (Ref sig .tc) :=
  [main_call1_cst, main_call1_v0, main_call1_v1, main_call1_v2, main_call1_c, main_call1_v3, main_call1_v4, main_call1_v5, main_call1_v6, main_call1_cst_0, main_call1_call0_v0, main_call1_call0_v1, main_v71]

/-- The stretch before the SparseCore call. -/
abbrev hostPre : List (List (HloOp τ sig (Elt F))) :=
  [hostOps0, hostOps1, diagOps (.of main_v21) main_call0, hostOps2, diagOps (.of main_v45) main_call1, hostOps3]

theorem part0_eq (d : Dev nD) : main_part0 (F := F) d = Pipeline.chainK [] (StableHlo.seq hostOps0) := by
  chain_rfl

theorem part1_eq (d : Dev nD) : main_part1 (F := F) d = Pipeline.chain
    [StableHlo.seq hostOps1, StableHlo.seq (diagOps (.of main_v21) main_call0), StableHlo.seq hostOps2,
      StableHlo.seq (diagOps (.of main_v45) main_call1), StableHlo.seq hostOps3, sc.run d 0,
      Prog.lift (.customCall (SparseCore.inner (Pipeline.entry 0)) ()), StableHlo.seq hostOps4] := by
  rewrite [StableHlo.chain_seq_cons, Pipeline.chain_cons, StableHlo.chain_seq_cons, Pipeline.chain_cons, StableHlo.chain_seq_cons,
    Pipeline.chain_cons, Pipeline.chain_cons, StableHlo.chain_seq_cons]
  chain_rfl

/-- @main: the operations of `hostPre`, the SparseCore call, the TensorCore call, the operations of `hostOps4`. -/
theorem main_chain (d : Dev nD) : main (F := F) d = (StableHlo.seq hostPre.flatten >>= fun _ => Pipeline.chain
    [sc.run d 0, Prog.lift (.customCall (SparseCore.inner (Pipeline.entry 0)) ()), StableHlo.seq hostOps4]) := by
  rw [← StableHlo.chain_map_seq_append]
  exact Pipeline.chain_of_window (xs := []) (part0_eq d) (part1_eq d)

/-! ## What the operations touch -/

/-- The TensorCore's references that live as long as the run. -/
def ucRefs : Finset (DevRef τ sig) := (StableHlo.tcRefs τ sig).filter fun b => ¬ b.isScoped

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
theorem hostOps0_fresh : (hostOps0 : List (HloOp τ sig (Elt F))).Forall fun op => op.fresh = ∅ :=
  StableHlo.forall_fresh_of_map rfl
theorem hostOps0_writes : (hostOps0 : List (HloOp τ sig (Elt F))).Forall fun op => op.writes ⊆ (hostOps0Refs.map (Proc.devRef (τ := τ) .tc)).toFinset :=
  StableHlo.forall_writes_sub_of_map rfl
theorem hostOps1_sub : (hostOps1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩
theorem hostOps1_fresh : (hostOps1 : List (HloOp τ sig (Elt F))).Forall fun op => op.fresh = ∅ :=
  StableHlo.forall_fresh_of_map rfl
theorem hostOps1_writes : (hostOps1 : List (HloOp τ sig (Elt F))).Forall fun op => op.writes ⊆ (hostOps1Refs.map (Proc.devRef (τ := τ) .tc)).toFinset :=
  StableHlo.forall_writes_sub_of_map rfl
theorem hostOps2_sub : (hostOps2 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩
theorem hostOps2_fresh : (hostOps2 : List (HloOp τ sig (Elt F))).Forall fun op => op.fresh = ∅ :=
  StableHlo.forall_fresh_of_map rfl
theorem hostOps2_writes : (hostOps2 : List (HloOp τ sig (Elt F))).Forall fun op => op.writes ⊆ (hostOps2Refs.map (Proc.devRef (τ := τ) .tc)).toFinset :=
  StableHlo.forall_writes_sub_of_map rfl
theorem hostOps3_sub : (hostOps3 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.reshape_bufs_sub ..⟩
theorem hostOps3_fresh : (hostOps3 : List (HloOp τ sig (Elt F))).Forall fun op => op.fresh = ∅ :=
  StableHlo.forall_fresh_of_map rfl
theorem hostOps3_writes : (hostOps3 : List (HloOp τ sig (Elt F))).Forall fun op => op.writes ⊆ (hostOps3Refs.map (Proc.devRef (τ := τ) .tc)).toFinset :=
  StableHlo.forall_writes_sub_of_map rfl
theorem hostOps4_sub : (hostOps4 : List (HloOp τ sig (Elt F))).Forall fun op => op.bufs ⊆ StableHlo.tcRefs τ sig :=
  ⟨StableHlo.reshape_bufs_sub .., StableHlo.nullary_bufs_sub .., StableHlo.nullary_bufs_sub .., StableHlo.binaryIndexed_bufs_sub ..⟩
theorem hostOps4_fresh : (hostOps4 : List (HloOp τ sig (Elt F))).Forall fun op => op.fresh = ∅ :=
  StableHlo.forall_fresh_of_map rfl
theorem hostOps4_writes : (hostOps4 : List (HloOp τ sig (Elt F))).Forall fun op => op.writes ⊆ (hostOps4Refs.map (Proc.devRef (τ := τ) .tc)).toFinset :=
  StableHlo.forall_writes_sub_of_map rfl
theorem diagOps_sub (a : StableHlo.TRef sig ⟨S256, .f32⟩) (φ : fn_diag.Bufs) : (diagOps a φ : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.ternary_bufs_sub ..⟩
theorem diagOps_fresh (a : StableHlo.TRef sig ⟨S256, .f32⟩) (φ : fn_diag.Bufs) : (diagOps a φ : List (HloOp τ sig (Elt F))).Forall fun op => op.fresh = ∅ :=
  StableHlo.forall_fresh_of_map rfl
theorem diag0_writes : (diagOps (.of main_v21) main_call0 : List (HloOp τ sig (Elt F))).Forall fun op => op.writes ⊆ (diag0Refs.map (Proc.devRef (τ := τ) .tc)).toFinset :=
  StableHlo.forall_writes_sub_of_map rfl
theorem diag1_writes : (diagOps (.of main_v45) main_call1 : List (HloOp τ sig (Elt F))).Forall fun op => op.writes ⊆ (diag1Refs.map (Proc.devRef (τ := τ) .tc)).toFinset :=
  StableHlo.forall_writes_sub_of_map rfl

theorem forall_flatten {p : HloOp τ sig (Elt F) → Prop} (Ls : List (List (HloOp τ sig (Elt F)))) (h : Ls.Forall fun l => l.Forall p) :
    ∀ op ∈ Ls.flatten, p op := by
  intro op hop
  obtain ⟨l, hl, hop⟩ := List.mem_flatten.mp hop
  exact List.forall_iff_forall_mem.mp (List.forall_iff_forall_mem.mp h l hl) op hop

theorem hostPre_sub : ∀ op ∈ (hostPre (F := F)).flatten, op.bufs ⊆ ucRefs := fun op hop => sub_ucRefs op
  (forall_flatten hostPre ⟨hostOps0_sub, hostOps1_sub, diagOps_sub _ _, hostOps2_sub, diagOps_sub _ _, hostOps3_sub⟩ op hop)

theorem hostPre_fresh : ∀ op ∈ (hostPre (F := F)).flatten, op.fresh = ∅ :=
  forall_flatten hostPre ⟨hostOps0_fresh, hostOps1_fresh, diagOps_fresh _ _, hostOps2_fresh, diagOps_fresh _ _, hostOps3_fresh⟩

theorem hostOps4_sub' : ∀ op ∈ (hostOps4 (F := F)), op.bufs ⊆ ucRefs :=
  fun op hop => sub_ucRefs op (List.forall_iff_forall_mem.mp hostOps4_sub op hop)

theorem after_append (l₁ l₂ : List (HloOp τ sig (Elt F))) (V : Valuation τ sig (Elt F)) : after (l₁ ++ l₂) V = after l₂ (after l₁ V) := by
  induction l₁ generalizing V with
  | nil => rfl
  | cons op l ih => exact ih _

/-- The contents before the SparseCore call, from the launch's. -/
def Wpre (V : Valuation τ sig (Elt F)) : Valuation τ sig (Elt F) := after hostPre.flatten V

/-- They are the six stretches' one after the other. -/
theorem Wpre_eq (V : Valuation τ sig (Elt F)) :
    Wpre V = after hostOps3 (after (diagOps (.of main_v45) main_call1) (after hostOps2 (after (diagOps (.of main_v21) main_call0)
      (after hostOps1 (after hostOps0 V))))) := by
  unfold Wpre
  simp only [hostPre, List.flatten_cons, List.flatten_nil, after_append, List.append_nil]

/-- A reference none of them writes keeps its contents. -/
theorem Wpre_keep (V : Valuation τ sig (Elt F)) (r : Ref sig .tc) (h0 : r ∉ hostOps0Refs) (h1 : r ∉ hostOps1Refs) (h2 : r ∉ diag0Refs)
    (h3 : r ∉ hostOps2Refs) (h4 : r ∉ diag1Refs) (h5 : r ∉ hostOps3Refs) : Wpre V (Proc.devRef .tc r) = V (Proc.devRef .tc r) := by
  rw [Wpre_eq, after_of_writes_sub _ _ hostOps3_writes h5, after_of_writes_sub _ _ diag1_writes h4, after_of_writes_sub _ _ hostOps2_writes h3,
    after_of_writes_sub _ _ diag0_writes h2, after_of_writes_sub _ _ hostOps1_writes h1, after_of_writes_sub _ _ hostOps0_writes h0]

end Cert.Proof.K

end
-- ==== Proof.Region.lean ====
/-
  The TensorCore call: a pipeline of 14 points, each multiplying one block of 2048 rows of the input by the rotation
  matrix. Its body run by the executor, its proof data at the contents `V` it is entered with, and its region: the
  long-lived buffers at `V` go to `V` with the result's array at the blocks' products.
-/
module

public import proofs.«01_k».proof.Proof.Host
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

noncomputable section

namespace Cert.Proof.K

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The whole of a block of rows, and of the matrix, as the body addresses them. -/
abbrev rowsRect : Rect S2048x256 := Rect.unit (s := S2048x256) ![0, 0] S2048x256.size inb_S2048x256_S2048x256_0_0
abbrev matRect : Rect S256x256 := Rect.unit (s := S256x256) ![0, 0] S256x256.size inb_S256x256_S256x256_0_0

theorem rowsRect_emb (x : S2048x256.Idx) : rowsRect.emb x = x := by
  funext a
  match a with
  | 0 => exact Fin.ext (show 0 + 1 * (x 0).val = (x 0).val by omega)
  | 1 => exact Fin.ext (show 0 + 1 * (x 1).val = (x 1).val by omega)
theorem matRect_emb (x : S256x256.Idx) : matRect.emb x = x := by
  funext a
  match a with
  | 0 => exact Fin.ext (show 0 + 1 * (x 0).val = (x 0).val by omega)
  | 1 => exact Fin.ext (show 0 + 1 * (x 1).val = (x 1).val by omega)

section Body

variable (c : Dev nD) (i : grid1.Coords)
  (M0 : Memref sig .tc .vmem S2048x256 .f32) (h0 : M0.IsWhole) (M1 : Memref sig .tc .vmem S256x256 .f32) (h1 : M1.IsWhole)
  (M2 : Memref sig .tc .vmem S2048x256 .f32) (h2 : M2.IsWhole)

theorem ld_rows (v : View sig .tc .vmem S2048x256 .f32) (f : v.ty.Contents (Elt F)) : v.readAt (Elt F) rowsRect.toLoadRect f = v.read (Elt F) f := by
  funext x
  exact congrArg (v.read (Elt F) f) (rowsRect_emb x)
theorem ld_mat (v : View sig .tc .vmem S256x256 .f32) (f : v.ty.Contents (Elt F)) : v.readAt (Elt F) matRect.toLoadRect f = v.read (Elt F) f := by
  funext x
  exact congrArg (v.read (Elt F) f) (matRect_emb x)
theorem st_rows (v : View sig .tc .vmem S2048x256 .f32) (f : v.ty.Contents (Elt F)) (w : Vec F S2048x256 .f32) :
    v.read (Elt F) (v.writes (Elt F) f [⟨rowsRect, w⟩]) = w := by
  funext x
  have e := View.read_writes_cons_emb (Val := Elt F) v f rowsRect w [] x
  rw [rowsRect_emb] at e
  exact e

/-- The body: from a block of rows `X0` and the matrix `X1`, the block of products. -/
theorem mm_body (X0 : Vec F S2048x256 .f32) (X1 : Vec F S256x256 .f32) (X2 : Vec F S2048x256 .f32) (E : Set ℕ) (Q : PUnit → sProp 𝕄) :
    iprop(owns c M0 fullShare X0 ∗ owns c M1 fullShare X1 ∗ owns c M2 fullShare X2
        ∗ (iprop(owns c M0 fullShare X0 ∗ owns c M1 fullShare X1 ∗ owns c M2 fullShare (k1_pay1 X0 X1)) -∗ Q ⟨⟩))
      ⊢ wp frame (wpE (defs₀ (F := F)) Variants.none c none) E (cc1__tc_matmul_kernel i M0 h0 M1 h1 M2 h2) Q := by
  simp only [cc1__tc_matmul_kernel_eq_skeleton]; unfold cc1__tc_matmul_kernel_skel
  unfold owns
  iintro ⟨⟨%f0, %e0, H0⟩, ⟨%f1, %e1, H1⟩, ⟨%f2, %e2, H2⟩, Hk⟩
  sl_exec!
  sl_step
  iapply Hk
  isplitl [H0]
  · iexists f0; isplitr; · ipureintro; exact e0
    iexact H0
  isplitl [H1]
  · iexists f1; isplitr; · ipureintro; exact e1
    iexact H1
  iexists _; isplitr [H2]
  on_goal 2 => iexact H2
  ipureintro
  refine (st_rows M2.view _ _).trans ?_
  show k1_pay1 (M0.view.readAt (Elt F) rowsRect.toLoadRect f0) (M1.view.readAt (Elt F) matRect.toLoadRect f1) = k1_pay1 X0 X1
  rw [ld_rows, ld_mat, e0, e1]

end Body

/-! ## The proof data, at an entry valuation -/

variable (V : (c : Dev nD) → (b : Ref sig .tc) → Buf (Elt F) ((c : Thread nD τ).loc b))

/-- Point `t`'s block of rows, and the matrix, as the fetches stage them. -/
abbrev rowsAt (c : Dev nD) (t : Fin cfg1.N) : Vec F S2048x256 .f32 := ((cfg1.win 0).blk t).view.read (Elt F) (V c main_arg0)
abbrev matAt (c : Dev nD) (t : Fin cfg1.N) : Vec F S256x256 .f32 := ((cfg1.win 1).blk t).view.read (Elt F) (V c main_v76)

/-- The pairs the core's waits may have recorded by then: those at the call's level or below. -/
def below (c : Dev nD) : Set (SemLoc sig × HIx 1) := {p | (K (F := F)).lev (T c, p.1) p.2 ≤ 8 * ((1 : ℕ))}

abbrev Φc (c : Dev nD) : sProp 𝕄 := Pipeline.scopedRest (Ix := HIx 1) (Name := ℕ) (U := UU) (Lvl := ℕ) (Val := Elt F) spec1 c

/-- The proof data: the three arrays at `V`; after the body the two inputs' buffers as fetched and the result's at their
    product; nothing owed; full shares. -/
def dat (c : Dev nD) : Dat τ (Elt F) (HIx 1) ℕ UU ℕ cfg1 c where
  A w := V c (Pipeline.arrRef spec1 w)
  after w t := match w with
    | ⟨0, _⟩ => rowsAt V c t
    | ⟨1, _⟩ => matAt V c t
    | ⟨2, _⟩ => k1_pay1 (rowsAt V c t) (matAt V c t)
  Φ _ := Φc c
  q _ := fullShare
  owed _ := 0
  recorded _ := below (F := F) c

def pdats : (p : Fin 1) → (c : Dev nD) → Dat τ (Elt F) (HIx 1) ℕ UU ℕ (Pipeline.pin (pcfgs (F := F)) (fun q => (cfgs q).toPCfg_adm) p) c
  | ⟨0, _⟩ => fun c => dat V c

theorem before_rows (c : Dev nD) (t : Fin cfg1.N) (d : (cfg1.win 0).block.Idx → Elt F (cfg1.win 0).elt) : (dat V c).before 0 t d = rowsAt V c t :=
  ((dat V c).before_in_eq_fetched 0 rfl (fun _ => rfl) (fun _ _ _ => rfl) (fun _ => rfl) t d).trans rfl
theorem before_mat (c : Dev nD) (t : Fin cfg1.N) (d : (cfg1.win 1).block.Idx → Elt F (cfg1.win 1).elt) : (dat V c).before 1 t d = matAt V c t :=
  ((dat V c).before_in_eq_fetched 1 rfl (fun _ => rfl) (fun _ _ _ => rfl) (fun _ => rfl) t d).trans rfl

theorem body_obligation (c : Dev nD) : BodyObligation (dat V c) (defs₀ (F := F)) Variants.none (none : HIx 1) Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩⟩
  rw [before_rows, before_mat]
  iapply (mm_body (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (rowsAt V c t) (matAt V c t) ((dat V c).before 2 t d2) Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The region -/

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The result's array after the region: the blocks' products written over what it held. -/
def mmRes (c : Dev nD) : Buf (Elt F) ((c : Thread nD τ).loc main_v79) := (dat V c).arrAt 2 cfg1.N

variable (Vp : (c : Dev nD) → (b : Ref sig .tc) → Buf (Elt F) ((c : Thread nD τ).loc b))

theorem waitPairs_below (c : Dev nD) : ((cfg1).waitPairs (none : HIx 1) : Set (SemLoc sig × HIx 1)) ⊆ below (F := F) c := by
  intro p hp
  have e : p.2 = none := by
    simp only [Pipeline.Cfg.waitPairs] at hp
    obtain ⟨s, _, rfl⟩ := hp
    rfl
  show (K (F := F)).lev (T c, p.1) p.2 ≤ _
  rw [e]
  exact Nat.zero_le _

set_option backward.isDefEq.respectTransparency.types false in
/-- The region, over "every long-lived buffer at `V`, and the core's record of what it owes: nothing". -/
def reg (R : Dev nD → sProp 𝕄) (hVp_out : ∀ c, Vp c main_v79 = mmRes V c)
    (hVp_ne : ∀ c (b : Ref sig .tc), b ≠ main_v79 → Vp c b = V c b) :
    Pipeline.RegionSeg (pcfgs (F := F)) (fun q => (cfgs q).toPCfg_adm) (pdats V) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c ∗ ∃ W, ⌜(K (F := F)).WBelow (T c) W (8 * 1)⌝ ∗ owes (c : Thread nD τ) (0 : CellTallies nD τ sig (HIx 1)) W)
  post c := iprop(unscopedBufs c (Vp c) ∗ R c ∗ ∃ W, ⌜(K (F := F)).WBelow (T c) W (8 * 1)⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) (fun q => (cfgs q).toPCfg_adm) (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) (fun q => (cfgs q).toPCfg_adm) (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_arg0 (by decide)).symm
        · exact ((pdats V 0 c).arrAt_in 1 rfl _).trans (hVp_ne c main_v76 (by decide)).symm
        · exact (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; exact fun p hp => (hW hp).elim id fun h => waitPairs_below (F := F) c h
    iexact HO

end Cert.Proof.K

end
-- ==== Proof.Main.lean ====
/-
  `@main` on a device: the host operations before the SparseCore call, the call, the TensorCore call, the two host
  operations that join their results. What every long-lived buffer holds at the end, and the run of the whole program.
-/
module

public import proofs.«01_k».proof.Proof.Region
public import Idealize.ShloMosaic.Lib.SparseCore.Quiescent
public import Idealize.ShloMosaic.Lib.Pipeline.Launch

@[expose] public section

noncomputable section

namespace Cert.Proof.K

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

local notation "𝕄" => MT nD τ sig (HIx 1) (Elt F) ℕ UU ℕ

/-! ## What the buffers hold, call by call -/

section Vals

variable (m : (ℓ : Loc nD τ sig) → Buf (Elt F) ℓ)

/-- At launch; when the SparseCore call starts; after it; after the TensorCore call; at the end. -/
def W0 (d : Dev nD) : Valuation τ sig (Elt F) := fun b => m (d, b)
def WA (d : Dev nD) : Valuation τ sig (Elt F) := Wpre (W0 m d)
def WB (d : Dev nD) : Valuation τ sig (Elt F) := Function.update (WA m d) (Proc.devRef .tc main_v78) (scRes (WA m) d)
def VB (c : Dev nD) (b : Ref sig .tc) : Buf (Elt F) ((c : Thread nD τ).loc b) := WB m c b
def WC (d : Dev nD) : Valuation τ sig (Elt F) := Function.update (WB m d) (Proc.devRef .tc main_v79) (mmRes (VB m) d)
def VC (c : Dev nD) (b : Ref sig .tc) : Buf (Elt F) ((c : Thread nD τ).loc b) := WC m c b
def WD (d : Dev nD) : Valuation τ sig (Elt F) := after hostOps4 (WC m d)

theorem devRef_ne {a b : Ref sig .tc} (h : a ≠ b) : (Proc.devRef .tc a : DevRef τ sig) ≠ Proc.devRef .tc b :=
  fun e => h (Proc.devRef_injective (τ := τ) .tc e)

theorem WB_v78 (d : Dev nD) : WB m d (Proc.devRef .tc main_v78) = scRes (WA m) d := by
  unfold WB; exact Function.update_self ..
theorem WB_ne (d : Dev nD) (b : DevRef τ sig) (h : b ≠ Proc.devRef .tc main_v78) : WB m d b = WA m d b := by
  unfold WB; exact Function.update_of_ne h ..
theorem WC_v79 (d : Dev nD) : WC m d (Proc.devRef .tc main_v79) = mmRes (VB m) d := by
  unfold WC; exact Function.update_self ..
theorem WC_ne (d : Dev nD) (b : DevRef τ sig) (h : b ≠ Proc.devRef .tc main_v79) : WC m d b = WB m d b := by
  unfold WC; exact Function.update_of_ne h ..

end Vals

/-! ## The pipeline's ghost state -/

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance : (EP : Emb UP 𝕄).LandsIn (upEmb : UEmb _ 𝕄) := by unfold EP; infer_instance

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

abbrev adm0 : (p : Fin 1) → (pcfgs (F := F) p).Adm := fun q => (cfgs q).toPCfg_adm

def G (d : Dev nD) : sProp 𝕄 := iprop(Pipeline.cellsGhost (Pipeline.pin (pcfgs (F := F)) adm0) EP 0 d ∗ Pipeline.toksInit (Pipeline.pin (pcfgs (F := F)) adm0) EP 0 d)

def u₀ : UU := (initOf (K (F := F)).hsCells (K (F := F)).hsToks, (initOf (Pipeline.cells cfgs cellOf_inj) (Pipeline.launchToks cfgs cellOf_inj), 1))

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d => G (F := F) d)
      ∗ bigSep Finset.univ fun thr : Thread nD τ => bigSep Finset.univ fun q : Fin 1 => (P (WA m)).x q thr) := by
  rw [show (bigSep Finset.univ fun thr : Thread nD τ => bigSep Finset.univ fun q : Fin 1 => (P (WA m)).x q thr) = (iprop(emp) : sProp 𝕄) from
    (bigSep_congr fun _ _ => bigSep_univ_of_subsingleton (0 : Fin 1)).trans (bigSep_emp_const _)]
  have hpick (Φ : Fin 1 → Dev nD → sProp 𝕄) :
      (bigSep Finset.univ fun c : Dev nD => bigSep Finset.univ fun p' => Φ p' c) ⊢ bigSep Finset.univ fun c : Dev nD => Φ 0 c :=
    bigSep_mono fun c _ => BI.bigSep_elim (Finset.mem_univ 0)
  unfold u₀
  iintro Hu
  ihave H := (ownU_split _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · unfold G; rw [bigSep_sep']
    isplitl [Hg]
    · iapply (hpick fun p' c => Pipeline.cellsGhost (Pipeline.pin (pcfgs (F := F)) adm0) EP p' c); iexact Hg
    iapply (hpick fun p' c => Pipeline.toksInit (Pipeline.pin (pcfgs (F := F)) adm0) EP p' c); iexact Ht
  iempintro

/-! ## The SparseCore call over the long-lived buffers -/

def sixRefs : Finset (DevRef τ sig) :=
  {Proc.devRef .tc main_v77, Proc.devRef .tc main_v21, Proc.devRef .tc main_v24, Proc.devRef .tc main_v45, Proc.devRef .tc main_v48, Proc.devRef .tc main_v78}

theorem sixRefs_sub : sixRefs ⊆ ucRefs := by
  intro b hb
  have : ∀ b ∈ ([Proc.devRef .tc main_v77, Proc.devRef .tc main_v21, Proc.devRef .tc main_v24, Proc.devRef .tc main_v45, Proc.devRef .tc main_v48, Proc.devRef .tc main_v78] : List (DevRef τ sig)), b ∈ ucRefs := by
    intro b hb
    simp only [List.mem_cons, List.not_mem_nil, or_false] at hb
    unfold ucRefs
    rcases hb with rfl | rfl | rfl | rfl | rfl | rfl <;>
      exact Finset.mem_filter.mpr ⟨Finset.mem_map.mpr ⟨_, Finset.mem_univ _, rfl⟩, by decide⟩
  refine this b ?_
  simpa [sixRefs] using hb

theorem held_six (d : Dev nD) (X : Valuation τ sig (Elt F)) : (held (SparseCore.T d) sixRefs X : sProp 𝕄)
    = iprop((xLoc d ↦{fullShare} X (Proc.devRef .tc main_v77)) ∗ (caLoc d ↦{fullShare} X (Proc.devRef .tc main_v21))
      ∗ (saLoc d ↦{fullShare} X (Proc.devRef .tc main_v24)) ∗ (cbLoc d ↦{fullShare} X (Proc.devRef .tc main_v45))
      ∗ (sbLoc d ↦{fullShare} X (Proc.devRef .tc main_v48)) ∗ oLoc d ↦{fullShare} X (Proc.devRef .tc main_v78)) := by
  unfold held sixRefs
  rw [SparseCore.bigSep_insert' (by decide), SparseCore.bigSep_insert' (by decide), SparseCore.bigSep_insert' (by decide),
    SparseCore.bigSep_insert' (by decide), SparseCore.bigSep_insert' (by decide), bigSep_singleton]

theorem held_before (d : Dev nD) : (held (SparseCore.T d) ucRefs (WA m d) : sProp 𝕄)
    = iprop((bigSep Finset.univ fun c : Fin ((K (F := F)).nCore 0) => (P (WA m)).st 0 d c) ∗ held (SparseCore.T d) (ucRefs \ sixRefs) (WA m d)) := by
  rw [held_sub_split (SparseCore.T d) sixRefs_sub, held_six, st_eq]

theorem held_after (d : Dev nD) : (held (SparseCore.T d) ucRefs (WB m d) : sProp 𝕄)
    = iprop((bigSep Finset.univ fun c : Fin ((K (F := F)).nCore 0) => (P (WA m)).dn 0 d c) ∗ held (SparseCore.T d) (ucRefs \ sixRefs) (WA m d)) := by
  rw [held_sub_split (SparseCore.T d) sixRefs_sub, held_six, dn_eq, WB_v78,
    WB_ne m d _ (devRef_ne (by decide)), WB_ne m d _ (devRef_ne (by decide)), WB_ne m d _ (devRef_ne (by decide)),
    WB_ne m d _ (devRef_ne (by decide)), WB_ne m d _ (devRef_ne (by decide)),
    held_congr (SparseCore.T d) (S := ucRefs \ sixRefs) fun b hb => WB_ne m d b fun e => (Finset.mem_sdiff.mp hb).2 (by rw [e]; simp [sixRefs])]

/-! ## `@main` -/

abbrev FIN (d : Dev nD) : sProp 𝕄 := held (SparseCore.T d) ucRefs (WD m d)

theorem tcSt_one (d : Dev nD) : ∃ R : sProp 𝕄, (K (F := F)).tcSt EH d 1
    = iprop((∃ W, ⌜(K (F := F)).WBelow (SparseCore.T d) W (8 * 1)⌝ ∗ owes (SparseCore.T d) (0 : CellTallies nD τ sig (HIx 1)) W) ∗ R) :=
  ⟨_, by unfold SparseCore.Cfg.tcSt; rw [(K (F := F)).Otc_end d (le_refl _)]; rfl⟩

abbrev theReg := reg (VB m) (VC m) (fun _ => (iprop(emp) : sProp 𝕄)) (fun c => WC_v79 m c) (fun c b h => WC_ne m c b (devRef_ne h))

abbrev lowOwes (d : Dev nD) : sProp 𝕄 :=
  iprop(∃ W, ⌜(K (F := F)).WBelow (SparseCore.T d) W (8 * 1)⌝ ∗ owes (SparseCore.T d) (0 : CellTallies nD τ sig (HIx 1)) W)

def callProg : Prog (TpuEff nD τ sig (Elt F) (ΛP (F := F)) .tc) PUnit := .op (.customCall (Pipeline.entry 0) ()) fun _ => .ret ⟨⟩

theorem call_lifted : (Prog.lift (.customCall (SparseCore.inner (Pipeline.entry 0)) ()) : Prog (TpuEff nD τ sig (Elt F) (SparseCore.Sig (ΛP (F := F)) 1) .tc) PUnit)
    = SparseCore.liftProg (callProg (F := F)) := rfl

theorem call_glue (B HC HB O L G₁ G₂ Q w : sProp 𝕄) (hw : Q ⊢ w) :
    iprop((iprop(B ∗ HC ∗ O) -∗ Q) ∗ B ∗ HB ∗ O ∗ L ∗ G₁ ∗ G₂)
      ⊢ iprop((iprop(B ∗ HC ∗ emp ∗ O) -∗ w) ∗ B ∗ iprop(HB ∗ emp ∗ O) ∗ L ∗ G₁ ∗ G₂) := by
  iintro ⟨Hk, Hb, Hh, HO, Hl, Hg, Ht⟩
  isplitl [Hk]
  · iintro ⟨Hb, Hh, -, HO⟩
    iapply hw
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hg] <;> iassumption

/-- The TensorCore call as `@main` makes it. -/
theorem region_step (d : Dev nD) (Q : PUnit → sProp 𝕄) :
    iprop((iprop(boundary (SparseCore.T d) ∗ held (SparseCore.T d) ucRefs (WC m d) ∗ lowOwes d) -∗ Q ⟨⟩)
        ∗ boundary (SparseCore.T d) ∗ held (SparseCore.T d) ucRefs (WB m d) ∗ lowOwes d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [call_lifted]
  refine BI.Entails.trans ?_ ((K (F := F)).wp_liftProg (D (F := F)) 𝒱 (SparseCore.T d) Set.univ none callProg Q)
  have hinj : Function.Injective (Pipeline.cellOf (nD := nD) (τ := τ) (Pipeline.pin (pcfgs (F := F)) adm0)) := cellOf_inj
  have h := Pipeline.RegionSeg.wp (pcfgs (F := F)) adm0 (pdats (VB m)) (none : HIx 1) hinj EP defs₀ Variants.none (K (F := F)).L (K (F := F)).lev
    (theReg m) d none (fun u hu => nomatch hu) (fun _ => .ret ⟨⟩) Q
  refine BI.Entails.trans ?_ h
  have hpre : (theReg m).pre d = iprop(unscopedBufs d (VB m d) ∗ emp ∗ lowOwes d) := rfl
  have hpost : (theReg m).post d = iprop(unscopedBufs d (VC m d) ∗ emp ∗ lowOwes d) := rfl
  have hB : (unscopedBufs d (VB m d) : sProp 𝕄) = held (SparseCore.T d) ucRefs (WB m d) := unscopedBufs_held d (WB m d)
  have hC : (unscopedBufs d (VC m d) : sProp 𝕄) = held (SparseCore.T d) ucRefs (WC m d) := unscopedBufs_held d (WC m d)
  rw [hpre, hpost, hB, hC]
  have hw : Q ⟨⟩ ⊢ wp frame (wpE (D (F := F)) 𝒱 (SparseCore.T d) none) Set.univ (.ret ⟨⟩) Q := by
    rw [wp_ret]; iintro H; imodintro; iexact H
  exact call_glue _ _ _ _ _ _ _ _ _ hw

set_option backward.isDefEq.respectTransparency.types false in
theorem hmain (κ : GSem nD τ sig → ℕ) (d : Dev nD) :
    iprop((K (F := F)).ctx EH (P (WA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  have hub : (unscopedBufs d (fun b => m ((SparseCore.T d).loc b)) : sProp 𝕄) = held (SparseCore.T d) ucRefs (W0 m d) := unscopedBufs_held d (W0 m d)
  rw [hub, main_chain]
  iintro ⟨#Hctx, Hst, ⟨Hb, Hh, Hts, -⟩, HG⟩
  have hseq := wp_seq (defs := (K (F := F)).defs (D (F := F))) (𝒱 := 𝒱) (bd := none) (E := Set.univ) (Ix := HIx 1) (Name := ℕ) (U := UU) (Lvl := ℕ) d ucRefs (β := PUnit)
  iapply (hseq _ _ hostPre_sub hostPre_fresh (W0 m d)) $$ [Hb Hh]
  · isplitl [Hb] <;> iassumption
  iintro ⟨Hb, Hh⟩
  have hpre : (held (d.tc : Thread nD τ) ucRefs (after hostPre.flatten (W0 m d)) : sProp 𝕄)
      = iprop((bigSep Finset.univ fun c : Fin ((K (F := F)).nCore 0) => (P (WA m)).st 0 d c) ∗ held (SparseCore.T d) (ucRefs \ sixRefs) (WA m d)) := held_before m d
  ihave Hh := (Entails.of_eq hpre) $$ Hh
  icases Hh with ⟨Hsix, Hrest⟩
  rw [Pipeline.chain_cons, wp_bind]
  iapply ((K (F := F)).wp_run (D (F := F)) 𝒱 (EH := EH) (P := P (WA m)) κ d 0) $$ [Hst Hsix Hrest Hb Hts HG]
  isplitr; · iexact Hctx
  isplitl [Hst]; · iexact Hst
  isplitl [Hsix]; · iexact Hsix
  iintro ⟨Hst, Hdn⟩
  ihave Hh := (Entails.of_eq (held_after m d).symm) $$ [Hdn Hrest]
  · isplitl [Hdn] <;> iassumption
  rw [Pipeline.chain_cons, wp_bind]
  have hR' : ((K (F := F)).tcSt EH d ((0 : Fin 1).val + 1) : sProp 𝕄) = _ := hR
  ihave Hst := (Entails.of_eq hR') $$ Hst
  icases Hst with ⟨HO, HR⟩
  ihave Hlv := (SparseCore.Cfg.ctx_levAts κ) $$ Hctx
  iapply (region_step m d _)
  isplitl [HR Hts]
  · iintro ⟨Hb, Hh, HO⟩
    rw [Pipeline.chain_cons]
    have hops := hseq (fun _ => Pipeline.chain []) (K := fun _ => iprop((K (F := F)).tcSt EH d 1 ∗ FIN m d ∗ boundary (SparseCore.T d) ∗ (K (F := F)).tcSems0 d))
      hostOps4 hostOps4_sub' (List.forall_iff_forall_mem.mp hostOps4_fresh) (WC m d)
    iapply hops $$ [Hb Hh]
    · isplitl [Hb] <;> iassumption
    iintro ⟨Hb, Hh⟩
    rw [show (Pipeline.chain [] : Prog (TpuEff nD τ sig (Elt F) (SparseCore.Sig (ΛP (F := F)) 1) .tc) PUnit) = .ret ⟨⟩ from rfl, wp_ret]
    imodintro
    isplitl [HO HR]
    · iapply (Entails.of_eq hR.symm)
      isplitl [HO] <;> iassumption
    isplitl [Hh]; · iexact Hh
    isplitl [Hb] <;> iassumption
  isplitl [Hb]; · iexact Hb
  isplitl [Hh]; · iexact Hh
  isplitl [HO]; · iexact HO
  isplitr; · iexact Hlv
  iexact HG

/-! ## The run -/

/-- What is known of the final memory: every long-lived buffer of the TensorCore holds what `@main` leaves it. -/
def fq (d : Dev nD) (s' : Phys nD τ sig (Elt F)) : Prop := ∀ b ∈ ucRefs, s'.mem.mem (d, b) = WD m d b

set_option maxRecDepth 16384 in
theorem hfin (d : Dev nD) (s' : Phys nD τ sig (Elt F)) : iprop(FIN m d ∗ SI s') ⊢ (⌜fq m d s'⌝ : sProp 𝕄) := by
  have one : ∀ b ∈ ucRefs, iprop(FIN m d ∗ SI s') ⊢ (⌜s'.mem.mem (d, b) = WD m d b⌝ : sProp 𝕄) := by
    intro b hb
    have hsplit : (held (SparseCore.T d) ucRefs (WD m d) : sProp 𝕄) ⊢ (((d, b) : Loc nD τ sig) ↦{fullShare} WD m d b) :=
      BI.bigSep_elim (Φ := fun b : DevRef τ sig => (((d, b) : Loc nD τ sig) ↦{fullShare} WD m d b : sProp 𝕄)) hb
    iintro ⟨Hh, HSI⟩
    ihave Hb := hsplit $$ Hh
    ihave H := (SI_pointsTo_agree (st := s') (ℓ := (d, b)) (I := Finset.univ) (q := fullShare) (f := WD m d b)) $$ [HSI Hb]
    · isplitl [HSI] <;> iassumption
    icases H with %h
    ipureintro; exact funext fun i => h i (Finset.mem_univ i)
  intro x hx
  exact fun b hb => one b hb x hx

theorem run_main [∀ e, Nonempty (Elt F e)] :
    θ_run (defs (F := F)) (threads (F := F)) ⟨m, fun _ => 0, ρ⟩ (fun r => (∀ c : Dev nD, ∀ b ∈ ucRefs, r.2.mem (c, b) = WD m c b) ∧ r.2.sem = fun _ => 0) :=
  SparseCore.Cfg.θ_run_sc_quiescent (K := K (F := F)) (D := D (F := F)) (𝒱 := 𝒱) (EH := EH) (P := P (WA m)) (A := ∅) facts v₀
    (fun q hq => match q with | 0 => nomatch hq)
    (fun q _ => match q with | 0 => tileObl (WA m) facts)
    (fun q _ => match q with | 0 => SparseCore.Cfg.VecSplit.of_plain (vecSplit (WA m)))
    m ρ main (G (F := F)) (FIN m) (u₀ (F := F)) (sep_elim_left.trans (hu₀ m)) (hmain m ρ) (fq m) (hfin m)
    (fun r => (∀ c : Dev nD, ∀ b ∈ ucRefs, r.2.mem (c, b) = WD m c b) ∧ r.2.sem = fun _ => 0) (fun _ h hz => ⟨h, hz⟩)

end Cert.Proof.K

end
-- ==== Proof.Frames.lean ====
/-
  The kernel's frames: every argument array is a long-lived buffer that no operation of `@main` writes.
-/
module

public import proofs.«01_k».proof.Proof.Main
public import proofs.«01_k».proof.Defs
public import proofs.«01_k».proof.Proof.Gen.Kernel
public import proofs.«01_k».proof.Proof.Gen.KernelIdeal

@[expose] public section

noncomputable section

namespace Cert.Proof.K

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

theorem WD_eq (d : Dev nD) (r : Ref sig .tc) (h : r ∉ hostOps4Refs) (h79 : r ≠ main_v79) (h78 : r ≠ main_v78) :
    WD m d (Proc.devRef .tc r) = WA m d (Proc.devRef .tc r) := by
  unfold WD
  rw [StableHlo.after_of_writes_sub _ _ hostOps4_writes h, WC_ne m d _ (devRef_ne h79), WB_ne m d _ (devRef_ne h78)]

theorem WA_arg (d : Dev nD) (r : Ref sig .tc) (h0 : r ∉ hostOps0Refs) (h1 : r ∉ hostOps1Refs) (h2 : r ∉ diag0Refs)
    (h3 : r ∉ hostOps2Refs) (h4 : r ∉ diag1Refs) (h5 : r ∉ hostOps3Refs) : WA m d (Proc.devRef .tc r) = m (d, Proc.devRef .tc r) :=
  Wpre_keep (W0 m d) r h0 h1 h2 h3 h4 h5

theorem WD_arg0 (d : Dev nD) : WD m d (Proc.devRef .tc main_arg0) = m (d, Proc.devRef .tc main_arg0) :=
  (WD_eq m d main_arg0 (by decide) (by decide) (by decide)).trans
    (WA_arg m d main_arg0 (by decide +kernel) (by decide +kernel) (by decide +kernel) (by decide +kernel) (by decide +kernel) (by decide +kernel))
theorem WD_arg1 (d : Dev nD) : WD m d (Proc.devRef .tc main_arg1) = m (d, Proc.devRef .tc main_arg1) :=
  (WD_eq m d main_arg1 (by decide) (by decide) (by decide)).trans
    (WA_arg m d main_arg1 (by decide +kernel) (by decide +kernel) (by decide +kernel) (by decide +kernel) (by decide +kernel) (by decide +kernel))
theorem WD_arg2 (d : Dev nD) : WD m d (Proc.devRef .tc main_arg2) = m (d, Proc.devRef .tc main_arg2) :=
  (WD_eq m d main_arg2 (by decide) (by decide) (by decide)).trans
    (WA_arg m d main_arg2 (by decide +kernel) (by decide +kernel) (by decide +kernel) (by decide +kernel) (by decide +kernel) (by decide +kernel))
theorem WD_arg3 (d : Dev nD) : WD m d (Proc.devRef .tc main_arg3) = m (d, Proc.devRef .tc main_arg3) :=
  (WD_eq m d main_arg3 (by decide) (by decide) (by decide)).trans
    (WA_arg m d main_arg3 (by decide +kernel) (by decide +kernel) (by decide +kernel) (by decide +kernel) (by decide +kernel) (by decide +kernel))

theorem mem_uc (r : Ref sig .tc) (h : ¬ (Proc.devRef .tc r : DevRef τ sig).isScoped) : (Proc.devRef .tc r : DevRef τ sig) ∈ ucRefs := by
  unfold ucRefs
  exact Finset.mem_filter.mpr ⟨Finset.mem_map.mpr ⟨_, Finset.mem_univ _, rfl⟩, h⟩

/-- The run, as the claims take it: the result's array, and the arguments as they were. -/
theorem run_args [∀ e, Nonempty (Elt F e)] :
    θ_run (defs (F := F)) (threads (F := F)) ⟨m, fun _ => 0, ρ⟩ (fun r => (∀ c : Dev nD,
      r.2.mem ((c.tc : Thread nD τ).loc main_v81) = WD m c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (defs (F := F)) _ _).mono (fun _ h => ⟨fun c =>
    ⟨h.1 c _ (mem_uc main_v81 (by decide)), (h.1 c _ (mem_uc main_arg0 (by decide))).trans (WD_arg0 m c), (h.1 c _ (mem_uc main_arg1 (by decide))).trans (WD_arg1 m c),
      (h.1 c _ (mem_uc main_arg2 (by decide))).trans (WD_arg2 m c), (h.1 c _ (mem_uc main_arg3 (by decide))).trans (WD_arg3 m c)⟩, h.2⟩) (run_main m ρ)

/-! The two printings of the kernel are one text, read at words of bits and at extended reals: one proof serves both. -/

theorem defs₀_same : Cert.Kernel.defs₀ (F := Bits) = Cert.KernelIdeal.defs₀ (F := Bits) := by
  funext pr l a
  rcases pr with _ | _ | ⟨c, s⟩
  · match l, a with
    | 0, a => rfl
    | 1, (t, s) => rfl
  · match l, a with
    | 0, a => rfl
    | 1, (t, s) => rfl
  · match l, a with
    | 0, a => rfl
    | 1, (t, s) => rfl

theorem defs_same : Cert.Kernel.defs (F := Bits) = Cert.KernelIdeal.defs (F := Bits) :=
  congrArg (fun d => (Cert.KernelIdeal.sc (F := Bits)).defs (Pipeline.defs Cert.KernelIdeal.pcfgs d)) defs₀_same

set_option maxHeartbeats 2000000 in
theorem threads_same : Cert.Kernel.threads (F := Bits) = Cert.KernelIdeal.threads (F := Bits) := rfl

theorem run_same (s : MemSt nD τ sig (Elt Bits)) (Q : PUnit × MemSt nD τ sig (Elt Bits) → Prop)
    (h : θ_run (defs (F := Bits)) (threads (F := Bits)) s Q) :
    θ_run (Cert.Kernel.defs (F := Bits)) (Cert.Kernel.threads (F := Bits)) s Q := by
  have e := defs_same
  have e' := threads_same
  generalize Cert.Kernel.defs (F := Bits) = D at e ⊢
  generalize Cert.Kernel.threads (F := Bits) = t at e' ⊢
  subst e e'
  exact h

theorem frame_kernel : Cert.quiescent_Kernel := fun m ρ _ =>
  run_same _ _ ((θ_run (defs (F := Bits)) _ _).mono (fun _ h => ⟨fun c => (h.1 c).2, h.2⟩) (run_args (F := Bits) m ρ))

theorem frame_ideal : Cert.quiescent_KernelIdeal := fun m ρ _ =>
  (θ_run Cert.KernelIdeal.defs _ _).mono (fun _ h => ⟨fun c => (h.1 c).2, h.2⟩) (run_args (F := Ideal) m ρ)

end Cert.Proof.K

end
-- ==== Proof.RefFrame.lean ====
/-
  The reference's frames: its run is its loop's, which leaves the arguments; it has no semaphore.
-/
module

public import proofs.«01_k».proof.Defs
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen

open Idealize.ShloMosaic
open Idealize.ShloMosaic.TcCoe
open Idealize.SL Idealize.SL.Sem

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.Butterfly.lean ====
/-
  The mathematics, over the reals. A layer rotates the pairs of a row: coordinate `j`'s partner is `p j`, its pair's angle is
  number `k j`, and `s j` is 1 at a pair's first coordinate and -1 at its second. Two such layers over the same pairs are one,
  of the angles added; so the twenty-four layers are one over the first pairing and one over the second.
-/
module

public import Mathlib.Analysis.SpecialFunctions.Trigonometric.Basic

@[expose] public section

noncomputable section

namespace Cert.Proof.Butterfly

/-- A pairing of the 256 coordinates. -/
structure Pairing where
  p : Fin 256 → Fin 256
  k : Fin 256 → Fin 128
  s : Fin 256 → ℝ
  pp : ∀ j, p (p j) = j
  kp : ∀ j, k (p j) = k j
  sp : ∀ j, s (p j) = -s j
  ss : ∀ j, s j * s j = 1

namespace Pairing

variable (P : Pairing)

/-- One layer over the pairing, at coordinate `j`. -/
def rot (θ : Fin 128 → ℝ) (x : Fin 256 → ℝ) (j : Fin 256) : ℝ :=
  Real.cos (θ (P.k j)) * x j + P.s j * Real.sin (θ (P.k j)) * x (P.p j)

theorem rot_zero (x : Fin 256 → ℝ) : P.rot (fun _ => 0) x = x := by
  funext j
  simp [rot]

/-- Two layers over one pairing are one, of the angles added. -/
theorem rot_rot (θ φ : Fin 128 → ℝ) (x : Fin 256 → ℝ) : P.rot φ (P.rot θ x) = P.rot (fun k => θ k + φ k) x := by
  funext j
  simp only [rot, P.kp, P.pp, P.sp, Real.cos_add, Real.sin_add]
  linear_combination (-Real.sin (φ (P.k j)) * Real.sin (θ (P.k j)) * x j) * P.ss j

end Pairing

theorem xor_lt (j : Fin 256) (e : ℕ) (he : e < 256) : j.val ^^^ e < 256 := Nat.xor_lt_two_pow (n := 8) j.isLt he

/-- The first pairing: `j` with `j xor 1`. -/
def near : Pairing where
  p j := ⟨j.val ^^^ 1, xor_lt j 1 (by decide)⟩
  k j := ⟨j.val / 2, by omega⟩
  s j := if j.val % 2 = 0 then 1 else -1
  pp := by decide
  kp := by decide
  sp j := by
    have h : (j.val ^^^ 1) % 2 = 0 ↔ ¬ j.val % 2 = 0 := by revert j; decide
    by_cases e : j.val % 2 = 0 <;> simp [h, e]
  ss j := by split_ifs <;> norm_num

/-- The second: `j` with `j xor 128`. -/
def far : Pairing where
  p j := ⟨j.val ^^^ 128, xor_lt j 128 (by decide)⟩
  k j := ⟨j.val % 128, by omega⟩
  s j := if j.val < 128 then 1 else -1
  pp := by decide
  kp := by decide
  sp j := by
    have h : (j.val ^^^ 128) < 128 ↔ ¬ j.val < 128 := by revert j; decide
    by_cases e : j.val < 128 <;> simp [h, e]
  ss j := by split_ifs <;> norm_num

/-- The two coordinates of pair `k`, of a pairing. -/
structure Ends (P : Pairing) (a b : Fin 128 → Fin 256) : Prop where
  ka : ∀ k, P.k (a k) = k
  kb : ∀ k, P.k (b k) = k
  pa : ∀ k, P.p (a k) = b k
  pb : ∀ k, P.p (b k) = a k
  sa : ∀ k, P.s (a k) = 1
  sb : ∀ k, P.s (b k) = -1
  all : ∀ j, (∃ k, a k = j) ∨ ∃ k, b k = j

/-- The pairs of the first twelve layers, in the order of `indices_in`, and of the others, in the order of `idx_out`. -/
def nearA (k : Fin 128) : Fin 256 := ⟨2 * k.val, by omega⟩
def nearB (k : Fin 128) : Fin 256 := ⟨2 * k.val + 1, by omega⟩
def farA (k : Fin 128) : Fin 256 := ⟨k.val, by omega⟩
def farB (k : Fin 128) : Fin 256 := ⟨k.val + 128, by omega⟩

theorem near_ends : Ends near nearA nearB where
  ka := by decide
  kb := by decide
  pa := by decide
  pb := by decide
  sa k := if_pos (show 2 * k.val % 2 = 0 by omega)
  sb k := if_neg (show ¬ (2 * k.val + 1) % 2 = 0 by omega)
  all := by decide

theorem far_ends : Ends far farA farB where
  ka := by decide
  kb := by decide
  pa := by decide
  pb := by decide
  sa k := if_pos (show k.val < 128 from k.isLt)
  sb k := (if_neg (show ¬ k.val + 128 < 128 by omega) : (if k.val + 128 < 128 then (1 : ℝ) else -1) = -1)
  all := by decide

/-- The pairing of layer `l`. -/
def pairingOf (l : ℕ) : Pairing := if l < 12 then near else far

/-- The row after the first `l` layers. -/
def layers (A : ℕ → Fin 128 → ℝ) (x : Fin 256 → ℝ) : ℕ → Fin 256 → ℝ
  | 0 => x
  | l + 1 => (pairingOf l).rot (A l) (layers A x l)

theorem layers_near (A : ℕ → Fin 128 → ℝ) (x : Fin 256 → ℝ) : ∀ l, l ≤ 12 → layers A x l = near.rot (fun k => ∑ i ∈ Finset.range l, A i k) x
  | 0, _ => by simp [layers, Pairing.rot_zero]
  | l + 1, h => by
    rw [layers, layers_near A x l (by omega), pairingOf, if_pos (by omega), Pairing.rot_rot]
    simp only [Finset.sum_range_succ]

theorem layers_far (A : ℕ → Fin 128 → ℝ) (x : Fin 256 → ℝ) : ∀ l, layers A x (12 + l) = far.rot (fun k => ∑ i ∈ Finset.range l, A (12 + i) k) (layers A x 12)
  | 0 => by simp [Pairing.rot_zero]
  | l + 1 => by
    rw [← add_assoc, layers, layers_far A x l, pairingOf, if_neg (by omega), Pairing.rot_rot]
    simp only [Finset.sum_range_succ]

/-- All twenty-four: one rotation of the summed angles over each pairing. -/
theorem layers_all (A : ℕ → Fin 128 → ℝ) (x : Fin 256 → ℝ) :
    layers A x 24 = far.rot (fun k => ∑ i ∈ Finset.range 12, A (12 + i) k) (near.rot (fun k => ∑ i ∈ Finset.range 12, A i k) x) := by
  rw [show 24 = 12 + 12 from rfl, layers_far, layers_near A x 12 le_rfl]

/-! ## As matrices -/

namespace Pairing

variable (P : Pairing)

/-- The layer as a matrix: the cosines on the diagonal, and in each column the sine at the partner. -/
def mat (θ : Fin 128 → ℝ) (i j : Fin 256) : ℝ :=
  (if i = j then Real.cos (θ (P.k i)) else 0) + P.s j * Real.sin (θ (P.k j)) * (if i = P.p j then 1 else 0)

theorem vec_mat (θ : Fin 128 → ℝ) (x : Fin 256 → ℝ) (j : Fin 256) : ∑ i, x i * P.mat θ i j = P.rot θ x j := by
  simp only [mat, mul_add, Finset.sum_add_distrib, mul_ite, mul_one, mul_zero, Finset.sum_ite_eq', Finset.mem_univ, if_true, rot]
  ring

/-- A row times the product of two such matrices is the row through the two layers. -/
theorem vec_mat_mat (Q : Pairing) (θ φ : Fin 128 → ℝ) (x : Fin 256 → ℝ) (j : Fin 256) :
    ∑ i, x i * ∑ l, P.mat θ i l * Q.mat φ l j = Q.rot φ (P.rot θ x) j := by
  rw [← vec_mat]
  simp only [← vec_mat, Finset.mul_sum, Finset.sum_mul, mul_assoc]
  exact Finset.sum_comm

end Pairing

end Cert.Proof.Butterfly

end
-- ==== Proof.Tables.lean ====
/-
  The four tables and the matrix that the host makes, over the ideal numbers.
-/
module

public import proofs.«01_k».proof.Proof.Host
public import proofs.«01_k».proof.Proof.Butterfly
public import Idealize.ShloMosaic.Lib.Pointwise

@[expose] public section

noncomputable section

namespace Cert.Proof.K

open Cert.KernelIdeal Cert.KernelIdeal.Gen

open Idealize.ShloMosaic
open Idealize.ShloMosaic.StableHlo
open Cert.Proof.Butterfly (Pairing Ends near far nearA nearB farA farB near_ends far_ends)

section Defs

variable {F : FTy → Type} [FloatOps F]

/-- One row per pair: 1 in the column whose number is the pair's in `p`. -/
def hot (p : IVec S128 32) : FVec F S128x256 .f32 :=
  uitofp .f32 (cmpi .eq (broadcastInDim S128x256 ![0, 1] bcast_S128x1_S128x256_0_1 (broadcastInDim S128x1 ![0] bcast_S128_S128x1_0 p))
    (broadcastInDim S128x256 ![0, 1] bcast_S1x256_S128x256_0_1 (broadcastInDim S1x256 ![1] bcast_S256_S1x256_1 (iotaInDim S256 32 0))))

abbrev spread (u : FVec F S128 .f32) (p : IVec S128 32) : FVec F S256 .f32 :=
  Host.dotGeneral dot_S128_S128x256_S256_0_0_n_1_n_n (some .fp32) u (hot (F := F) p)

/-- The cosine and the sine table of the angles `t` over the pairs of `p`: its even entries the first coordinates. -/
def cosTable (t : FVec F S128 .f32) (p : IVec S256 32) : FVec F S256 .f32 :=
  addf (spread (Host.cos t) (Host.slice S128 ![0] ![2] p slicesBy_S256_S128_0s2)) (spread (Host.cos t) (Host.slice S128 ![1] ![2] p slicesBy_S256_S128_1s2))
def sinTable (t : FVec F S128 .f32) (p : IVec S256 32) : FVec F S256 .f32 :=
  subf (spread (Host.sin t) (Host.slice S128 ![0] ![2] p slicesBy_S256_S128_0s2)) (spread (Host.sin t) (Host.slice S128 ![1] ![2] p slicesBy_S256_S128_1s2))

/-- The sums of the first twelve layers' angles, and of the others'. -/
def firstSum (A : FVec F S24x128 .f32) : FVec F S128 .f32 :=
  Host.reduceAdd (extractStridedSlice S12x128 ![0, 0] A slices_S24x128_S12x128_0_0) (constant S_ .f32 0x00000000#32) reducesTo_S12x128_S128_d0 h_S_
def secondSum (A : FVec F S24x128 .f32) : FVec F S128 .f32 :=
  Host.reduceAdd (extractStridedSlice S12x128 ![12, 0] A slices_S24x128_S12x128_12_0) (constant S_ .f32 0x00000000#32) reducesTo_S12x128_S128_d0 h_S_

theorem ops0_v21 (V : Valuation τ sig (Elt F)) : after hostOps0 V (Proc.devRef .tc main_v21) = cosTable (firstSum (V (Proc.devRef .tc main_arg1))) (V (Proc.devRef .tc main_arg2)) := by
  after_reads_simp []
  rfl
theorem ops0_v24 (V : Valuation τ sig (Elt F)) : after hostOps0 V (Proc.devRef .tc main_v24) = sinTable (firstSum (V (Proc.devRef .tc main_arg1))) (V (Proc.devRef .tc main_arg2)) := by
  after_reads_simp []
  rfl
theorem ops0_v45 (V : Valuation τ sig (Elt F)) : after hostOps0 V (Proc.devRef .tc main_v45) = cosTable (secondSum (V (Proc.devRef .tc main_arg1))) (V (Proc.devRef .tc main_arg3)) := by
  after_reads_simp []
  rfl
theorem ops0_v48 (V : Valuation τ sig (Elt F)) : after hostOps0 V (Proc.devRef .tc main_v48) = sinTable (secondSum (V (Proc.devRef .tc main_arg1))) (V (Proc.devRef .tc main_arg3)) := by
  after_reads_simp []
  rfl

end Defs

section Values

theorem word_eq (a b : Fin 256) : IntOp.cmpi .eq (BitVec.ofNat 32 a.val) (BitVec.ofNat 32 b.val) = if a = b then 1#1 else 0#1 := by
  by_cases e : a = b
  · subst e
    simp [IntOp.cmpi]
  · have ne : BitVec.ofNat 32 a.val ≠ BitVec.ofNat 32 b.val := fun h => e (Fin.ext (by
      have := congrArg BitVec.toNat h
      simp only [BitVec.toNat_ofNat] at this
      omega))
    rw [if_neg e]
    show BitVec.ofBool (_ == _) = 0#1
    rw [beq_false_of_ne ne]
    rfl

/-- Whether two numbers are equal, as the host converts the comparison of their words. -/
theorem equal_words (a b : Fin 256) :
    (FloatOps.uitofp (F := Ideal) .f32 (IntOp.cmpi .eq (BitVec.ofNat 32 a.val) (BitVec.ofNat 32 b.val)) : EReal) = ((if a = b then 1 else 0 : ℝ) : EReal) := by
  rw [word_eq]
  show (((if a = b then 1#1 else 0#1 : BitVec 1).toNat : ℝ) : EReal) = _
  split_ifs <;> simp

theorem hot_apply (p : IVec S128 32) (n : Fin 128 → Fin 256) (hp : ∀ k, p (ix1 k) = BitVec.ofNat 32 (n k).val) (k : Fin 128) (j : Fin 256) :
    (hot (F := Ideal) p (ix2 k j) : EReal) = ((if n k = j then 1 else 0 : ℝ) : EReal) := by
  unfold hot
  pointwise [hp]
  exact equal_words (n k) j

theorem spread_apply (u : FVec Ideal S128 .f32) (p : IVec S128 32) (n : Fin 128 → Fin 256) (hp : ∀ k, p (ix1 k) = BitVec.ofNat 32 (n k).val) (j : Fin 256) :
    (spread (F := Ideal) u p (ix1 j) : EReal) = ∑ k : Fin 128, (u (ix1 k) : EReal) * ((if n k = j then 1 else 0 : ℝ) : EReal) := by
  unfold spread
  pointwise [hot_apply p n hp]

theorem firstSum_apply (A : FVec Ideal S24x128 .f32) (k : Fin 128) : (firstSum A (ix1 k) : EReal) = ∑ l : Fin 12, (A (ix2 ⟨l.val, by omega⟩ k) : EReal) := by
  unfold firstSum
  pointwise
theorem secondSum_apply (A : FVec Ideal S24x128 .f32) (k : Fin 128) : (secondSum A (ix1 k) : EReal) = ∑ l : Fin 12, (A (ix2 ⟨12 + l.val, by omega⟩ k) : EReal) := by
  unfold secondSum
  pointwise

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- What the host spreads, of reals, picks the entries of the pairs that coordinate `j` is of. -/
theorem spread_real (u : FVec Ideal S128 .f32) (t : Fin 128 → ℝ) (ht : ∀ k, (u (ix1 k) : EReal) = ((t k : ℝ) : EReal)) (p : IVec S128 32) (n : Fin 128 → Fin 256)
    (hp : ∀ k, p (ix1 k) = BitVec.ofNat 32 (n k).val) (j : Fin 256) :
    (spread (F := Ideal) u p (ix1 j) : EReal) = ((∑ k : Fin 128, t k * (if n k = j then 1 else 0) : ℝ) : EReal) := by
  rw [spread_apply u p n hp j, coe_sum]
  simp only [ht, EReal.coe_mul]

variable {P : Pairing} {a b : Fin 128 → Fin 256} (L : Ends P a b)

theorem pick (t : Fin 128 → ℝ) (n : Fin 128 → Fin 256) (hn : ∀ k, P.k (n k) = k) (j : Fin 256) :
    (∑ k : Fin 128, t k * (if n k = j then 1 else 0)) = if n (P.k j) = j then t (P.k j) else 0 := by
  rw [Finset.sum_eq_single (P.k j)]
  · simp
  · intro k _ hk
    rw [if_neg fun h => hk (by rw [← h, hn]), mul_zero]
  · intro h
    exact absurd (Finset.mem_univ _) h

include L in
theorem one_of (j : Fin 256) : a (P.k j) = j ∨ b (P.k j) = j := by
  rcases L.all j with ⟨k, rfl⟩ | ⟨k, rfl⟩
  · exact .inl (by rw [L.ka])
  · exact .inr (by rw [L.kb])

include L in
theorem not_both (j : Fin 256) : ¬ (a (P.k j) = j ∧ b (P.k j) = j) := fun ⟨h1, h2⟩ => by
  have e1 := L.sa (P.k j)
  have e2 := L.sb (P.k j)
  rw [h1] at e1
  rw [h2, e1] at e2
  norm_num at e2

variable (T : FVec Ideal S128 .f32) (t : Fin 128 → ℝ) (hT : ∀ k, (T (ix1 k) : EReal) = ((t k : ℝ) : EReal)) (p : IVec S256 32)
  (ha : ∀ k : Fin 128, Host.slice S128 ![0] ![2] p slicesBy_S256_S128_0s2 (ix1 k) = BitVec.ofNat 32 (a k).val)
  (hb : ∀ k : Fin 128, Host.slice S128 ![1] ![2] p slicesBy_S256_S128_1s2 (ix1 k) = BitVec.ofNat 32 (b k).val)

include L hT ha hb

theorem cosTable_apply (j : Fin 256) : (cosTable T p (ix1 j) : EReal) = ((Real.cos (t (P.k j)) : ℝ) : EReal) := by
  have hc : ∀ k, (Host.cos T (ix1 k) : EReal) = ((Real.cos (t k) : ℝ) : EReal) := fun k => by
    show Ideal.cos (T (ix1 k)) = _
    rw [hT, Ideal.cos_coe]
  show (spread (F := Ideal) _ _ (ix1 j) + spread (F := Ideal) _ _ (ix1 j) : EReal) = _
  rw [spread_real _ _ hc _ a ha, spread_real _ _ hc _ b hb, ← EReal.coe_add, pick (P := P) _ a L.ka, pick (P := P) _ b L.kb]
  have := not_both L j
  rcases one_of L j with h | h
  · rw [if_pos h, if_neg fun h' => this ⟨h, h'⟩, add_zero]
  · rw [if_pos h, if_neg fun h' => this ⟨h', h⟩, zero_add]

theorem sinTable_apply (j : Fin 256) : (sinTable T p (ix1 j) : EReal) = ((P.s j * Real.sin (t (P.k j)) : ℝ) : EReal) := by
  have hc : ∀ k, (Host.sin T (ix1 k) : EReal) = ((Real.sin (t k) : ℝ) : EReal) := fun k => by
    show Ideal.sin (T (ix1 k)) = _
    rw [hT, Ideal.sin_coe]
  show (spread (F := Ideal) _ _ (ix1 j) - spread (F := Ideal) _ _ (ix1 j) : EReal) = _
  rw [spread_real _ _ hc _ a ha, spread_real _ _ hc _ b hb, ← EReal.coe_sub, pick (P := P) _ a L.ka, pick (P := P) _ b L.kb]
  have := not_both L j
  rcases one_of L j with h | h
  · have e := L.sa (P.k j)
    rw [h] at e
    rw [if_pos h, if_neg fun h' => this ⟨h, h'⟩, sub_zero, e, one_mul]
  · have e := L.sb (P.k j)
    rw [h] at e
    rw [if_pos h, if_neg fun h' => this ⟨h', h⟩, zero_sub, e, neg_one_mul]

end Values

/-- The four tables. -/
structure TablesAt (V : Valuation τ sig (Elt Ideal)) (θ φ : Fin 128 → ℝ) : Prop where
  ca : ∀ j : Fin 256, V (Proc.devRef .tc main_v21) (ix1 j) = ((Real.cos (θ (near.k j)) : ℝ) : EReal)
  sa : ∀ j : Fin 256, V (Proc.devRef .tc main_v24) (ix1 j) = ((near.s j * Real.sin (θ (near.k j)) : ℝ) : EReal)
  cb : ∀ j : Fin 256, V (Proc.devRef .tc main_v45) (ix1 j) = ((Real.cos (φ (far.k j)) : ℝ) : EReal)
  sb : ∀ j : Fin 256, V (Proc.devRef .tc main_v48) (ix1 j) = ((far.s j * Real.sin (φ (far.k j)) : ℝ) : EReal)

theorem firstSum_real (B : FVec Ideal S24x128 .f32) (A : ℕ → Fin 128 → ℝ) (hA : ∀ (i : Fin 24) (k : Fin 128), B (ix2 i k) = ((A i.val k : ℝ) : EReal)) (k : Fin 128) :
    (firstSum B (ix1 k) : EReal) = ((∑ i ∈ Finset.range 12, A i k : ℝ) : EReal) := by
  rw [firstSum_apply, Finset.sum_range, coe_sum]
  refine Finset.sum_congr rfl fun i _ => (hA _ k).trans ?_
  rfl

theorem secondSum_real (B : FVec Ideal S24x128 .f32) (A : ℕ → Fin 128 → ℝ) (hA : ∀ (i : Fin 24) (k : Fin 128), B (ix2 i k) = ((A i.val k : ℝ) : EReal)) (k : Fin 128) :
    (secondSum B (ix1 k) : EReal) = ((∑ i ∈ Finset.range 12, A (12 + i) k : ℝ) : EReal) := by
  rw [secondSum_apply, Finset.sum_range, coe_sum]
  refine Finset.sum_congr rfl fun i _ => (hA _ k).trans ?_
  rfl

/-- The strided slices of the two orders list the pairs' first coordinates and their second. -/
theorem evens_apply (p : IVec S256 32) (k : Fin 128) : Host.slice S128 ![0] ![2] p slicesBy_S256_S128_0s2 (ix1 k) = p (ix1 (nearA k)) := by
  pointwise
  rfl
theorem odds_apply (p : IVec S256 32) (k : Fin 128) : Host.slice S128 ![1] ![2] p slicesBy_S256_S128_1s2 (ix1 k) = p (ix1 (nearB k)) := by
  pointwise
  exact congrArg (fun n : Fin 256 => p (ix1 n)) (Fin.ext (Nat.add_comm 1 _))

theorem tables_real (V : Valuation τ sig (Elt Ideal)) (A : ℕ → Fin 128 → ℝ)
    (i0 : ∀ j : Fin 256, V (Proc.devRef .tc main_arg2) (ix1 j) = BitVec.ofNat 32 j.val)
    (i1 : ∀ j : Fin 256, V (Proc.devRef .tc main_arg3) (ix1 j) = BitVec.ofNat 32 (j.val / 2 + 128 * (j.val % 2)))
    (hA : ∀ (i : Fin 24) (k : Fin 128), V (Proc.devRef .tc main_arg1) (ix2 i k) = ((A i.val k : ℝ) : EReal)) :
    TablesAt (after hostOps0 V) (fun k => ∑ i ∈ Finset.range 12, A i k) (fun k => ∑ i ∈ Finset.range 12, A (12 + i) k) := by
  have na : ∀ k : Fin 128, Host.slice S128 ![0] ![2] (V (Proc.devRef .tc main_arg2)) slicesBy_S256_S128_0s2 (ix1 k) = BitVec.ofNat 32 (nearA k).val :=
    fun k => (evens_apply _ k).trans (i0 _)
  have nb : ∀ k : Fin 128, Host.slice S128 ![1] ![2] (V (Proc.devRef .tc main_arg2)) slicesBy_S256_S128_1s2 (ix1 k) = BitVec.ofNat 32 (nearB k).val :=
    fun k => (odds_apply _ k).trans (i0 _)
  have fa : ∀ k : Fin 128, Host.slice S128 ![0] ![2] (V (Proc.devRef .tc main_arg3)) slicesBy_S256_S128_0s2 (ix1 k) = BitVec.ofNat 32 (farA k).val :=
    fun k => (evens_apply _ k).trans ((i1 _).trans (congrArg (BitVec.ofNat 32) (show 2 * k.val / 2 + 128 * (2 * k.val % 2) = k.val by omega)))
  have fb : ∀ k : Fin 128, Host.slice S128 ![1] ![2] (V (Proc.devRef .tc main_arg3)) slicesBy_S256_S128_1s2 (ix1 k) = BitVec.ofNat 32 (farB k).val :=
    fun k => (odds_apply _ k).trans ((i1 _).trans (congrArg (BitVec.ofNat 32) (show (2 * k.val + 1) / 2 + 128 * ((2 * k.val + 1) % 2) = k.val + 128 by omega)))
  have t1 := firstSum_real _ A hA
  have t2 := secondSum_real _ A hA
  exact {
    ca := fun j => by rw [ops0_v21]; exact cosTable_apply near_ends _ _ t1 _ na nb j
    sa := fun j => by rw [ops0_v24]; exact sinTable_apply near_ends _ _ t1 _ na nb j
    cb := fun j => by rw [ops0_v45]; exact cosTable_apply far_ends _ _ t2 _ fa fb j
    sb := fun j => by rw [ops0_v48]; exact sinTable_apply far_ends _ _ t2 _ fa fb j }

end Cert.Proof.K

end
-- ==== Proof.Matrix.lean ====
/-
  The dense matrix that the host makes for the TensorCore, over the ideal numbers: the product of the two rotations' matrices.
-/
module

public import proofs.«01_k».proof.Proof.Tables

@[expose] public section

noncomputable section

namespace Cert.Proof.K

open Cert.KernelIdeal Cert.KernelIdeal.Gen

open Idealize.ShloMosaic
open Idealize.ShloMosaic.StableHlo
open Cert.Proof.Butterfly (Pairing near far)

section Defs

variable {F : FTy → Type} [FloatOps F]

/-- Where the row's number is the column's xor `e`. -/
def swapBits (e : BitVec 32) : IVec S256x256 1 :=
  cmpi .eq (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1
      (xori (iotaInDim S256 32 0) (broadcastInDim S256 ![] bcast_S_S256 (constantI S_ 32 e)))))

/-- `u` on the diagonal, 0 off it. -/
def diagOf (u : FVec F S256 .f32) : FVec F S256x256 .f32 :=
  select (cmpi .eq (addi (iotaInDim S256x256 32 0) (broadcastInDim S256x256 ![] bcast_S_S256x256 (constantI S_ 32 0#32))) (iotaInDim S256x256 32 1))
    (broadcastInDim S256x256 ![0, 1] bcast_S256x1_S256x256_0_1 (broadcastInDim S256x1 ![0] bcast_S256_S256x1_0
      (pad S256 ![0] ![0] ![0] u (constant S_ .f32 0x00000000#32) pads_S256_S256_000 h_S_)))
    (broadcastInDim S256x256 ![] bcast_S_S256x256 (constant S_ .f32 0x00000000#32))

/-- One rotation's matrix: its diagonal, and the sines `v` of its columns at the partners `w`. -/
def rotOf (D : FVec F S256x256 .f32) (v : FVec F S256 .f32) (w : FVec F S256x256 .f32) : FVec F S256x256 .f32 :=
  addf D (mulf (broadcastInDim S256x256 ![0, 1] bcast_S1x256_S256x256_0_1 (broadcastInDim S1x256 ![1] bcast_S256_S1x256_1 v)) w)

theorem ops0_v49 (V : Valuation τ sig (Elt F)) : after hostOps0 V (Proc.devRef .tc main_v49) = iotaInDim S256 32 0 := by
  after_reads_simp []
theorem ops0_v56 (V : Valuation τ sig (Elt F)) : after hostOps0 V (Proc.devRef .tc main_v56) = swapBits 1#32 := by
  after_reads_simp []
  rfl
theorem ops1_v57 (V : Valuation τ sig (Elt F)) : after hostOps1 V (Proc.devRef .tc main_v57) = uitofp .f32 (V (Proc.devRef .tc main_v56)) := by
  after_reads_simp []
theorem ops1_v65 (V : Valuation τ sig (Elt F)) (h : V (Proc.devRef .tc main_v49) = iotaInDim S256 32 0) :
    after hostOps1 V (Proc.devRef .tc main_v65) = uitofp .f32 (swapBits 128#32) := by
  after_reads_simp [h]
  rfl
theorem diag0_v66 (V : Valuation τ sig (Elt F)) :
    after (diagOps (.of main_v21) main_call0) V (Proc.devRef .tc main_v66) = diagOf (V (Proc.devRef .tc main_v21)) := by
  after_reads_simp []
  rfl
theorem diag1_v71 (V : Valuation τ sig (Elt F)) :
    after (diagOps (.of main_v45) main_call1) V (Proc.devRef .tc main_v71) = diagOf (V (Proc.devRef .tc main_v45)) := by
  after_reads_simp []
  rfl
theorem ops2_v70 (V : Valuation τ sig (Elt F)) :
    after hostOps2 V (Proc.devRef .tc main_v70) = rotOf (V (Proc.devRef .tc main_v66)) (V (Proc.devRef .tc main_v24)) (V (Proc.devRef .tc main_v57)) := by
  after_reads_simp []
  rfl
theorem ops3_v76 (V : Valuation τ sig (Elt F)) :
    after hostOps3 V (Proc.devRef .tc main_v76) = Host.dotGeneral dot_S256x256_S256x256_S256x256_1_0_0_1_n_n (some .fp32) (V (Proc.devRef .tc main_v70))
      (rotOf (V (Proc.devRef .tc main_v71)) (V (Proc.devRef .tc main_v48)) (V (Proc.devRef .tc main_v65))) := by
  after_reads_simp []
  rfl
theorem ops3_v77 (V : Valuation τ sig (Elt F)) :
    after hostOps3 V (Proc.devRef .tc main_v77) = shapeCast S8388608 (V (Proc.devRef .tc main_arg0)) shapeCasts_S32768x256_S8388608 := by
  after_reads_simp []
  rfl

end Defs

section Values

theorem swap_apply (e : Fin 256) (i j : Fin 256) :
    ((uitofp .f32 (swapBits (BitVec.ofNat 32 e.val)) : FVec Ideal S256x256 .f32) (ix2 i j) : EReal) = ((if i = ⟨j.val ^^^ e.val, Cert.Proof.Butterfly.xor_lt j _ e.isLt⟩ then 1 else 0 : ℝ) : EReal) := by
  unfold swapBits
  pointwise
  have hx : IntOp.xori (BitVec.ofNat 32 j.val) (BitVec.ofNat 32 e.val) = BitVec.ofNat 32 (j.val ^^^ e.val) := by
    have hj := j.isLt
    have he := e.isLt
    have hl := Cert.Proof.Butterfly.xor_lt j _ e.isLt
    refine BitVec.eq_of_toNat_eq ?_
    show (BitVec.ofNat 32 j.val ^^^ BitVec.ofNat 32 e.val).toNat = _
    rw [BitVec.toNat_xor, BitVec.toNat_ofNat, BitVec.toNat_ofNat, BitVec.toNat_ofNat, Nat.mod_eq_of_lt (by omega), Nat.mod_eq_of_lt (by omega), Nat.mod_eq_of_lt (by omega)]
  rw [hx]
  exact equal_words i ⟨_, Cert.Proof.Butterfly.xor_lt j _ e.isLt⟩

theorem diag_apply (u : FVec Ideal S256 .f32) (i j : Fin 256) : (diagOf u (ix2 i j) : EReal) = if i = j then (u (ix1 i) : EReal) else 0 := by
  unfold diagOf
  pointwise
  rw [show IntOp.addi (BitVec.ofNat 32 i.val) 0#32 = BitVec.ofNat 32 i.val from BitVec.add_zero _, word_eq i j]
  by_cases e : i = j
  · rw [if_pos e, if_pos e]
    rfl
  · rw [if_neg e, if_neg e]
    rfl

theorem rot_apply (D : FVec Ideal S256x256 .f32) (v : FVec Ideal S256 .f32) (w : FVec Ideal S256x256 .f32) (i j : Fin 256) :
    (rotOf D v w (ix2 i j) : EReal) = D (ix2 i j) + v (ix1 j) * w (ix2 i j) := by
  unfold rotOf
  pointwise

/-- A rotation's matrix. -/
theorem rot_real (P : Pairing) (θ : Fin 128 → ℝ) (u v : FVec Ideal S256 .f32) (w : FVec Ideal S256x256 .f32)
    (hu : ∀ j : Fin 256, (u (ix1 j) : EReal) = ((Real.cos (θ (P.k j)) : ℝ) : EReal))
    (hv : ∀ j : Fin 256, (v (ix1 j) : EReal) = ((P.s j * Real.sin (θ (P.k j)) : ℝ) : EReal))
    (hw : ∀ i j : Fin 256, (w (ix2 i j) : EReal) = ((if i = P.p j then 1 else 0 : ℝ) : EReal)) (i j : Fin 256) :
    (rotOf (diagOf u) v w (ix2 i j) : EReal) = ((P.mat θ i j : ℝ) : EReal) := by
  rw [rot_apply, diag_apply, hu, hv, hw, Pairing.mat, EReal.coe_add, EReal.coe_mul (P.s j * _)]
  split_ifs <;> rfl

theorem product_apply (M N : FVec Ideal S256x256 .f32) (i j : Fin 256) :
    (Host.dotGeneral dot_S256x256_S256x256_S256x256_1_0_0_1_n_n (some .fp32) M N (ix2 i j) : EReal) = ∑ l : Fin 256, (M (ix2 i l) : EReal) * N (ix2 l j) := by
  pointwise

theorem shape_apply (X : FVec Ideal S32768x256 .f32) (r : Fin 32768) (j : Fin 256) :
    (shapeCast S8388608 X shapeCasts_S32768x256_S8388608 (ix1 ⟨256 * r.val + j.val, by omega⟩) : EReal) = X (ix2 r j) := by
  pointwise

end Values

/-- What the two calls are entered with, of the entry contents. -/
theorem pre_tables (V : Valuation τ sig (Elt Ideal)) (θ φ : Fin 128 → ℝ) (h : TablesAt (after hostOps0 V) θ φ) : TablesAt (Wpre V) θ φ := by
  have keep : ∀ r : Ref sig .tc, r ∉ hostOps1Refs → r ∉ diag0Refs → r ∉ hostOps2Refs → r ∉ diag1Refs → r ∉ hostOps3Refs →
      Wpre V (Proc.devRef .tc r) = after hostOps0 V (Proc.devRef .tc r) := fun r h1 h2 h3 h4 h5 => by
    rw [Wpre_eq, after_of_writes_sub _ _ hostOps3_writes h5, after_of_writes_sub _ _ diag1_writes h4, after_of_writes_sub _ _ hostOps2_writes h3,
      after_of_writes_sub _ _ diag0_writes h2, after_of_writes_sub _ _ hostOps1_writes h1]
  exact {
    ca := fun j => (congrFun (keep main_v21 (by decide) (by decide) (by decide) (by decide) (by decide)) _).trans (h.ca j)
    sa := fun j => (congrFun (keep main_v24 (by decide) (by decide) (by decide) (by decide) (by decide)) _).trans (h.sa j)
    cb := fun j => (congrFun (keep main_v45 (by decide) (by decide) (by decide) (by decide) (by decide)) _).trans (h.cb j)
    sb := fun j => (congrFun (keep main_v48 (by decide) (by decide) (by decide) (by decide) (by decide)) _).trans (h.sb j) }

theorem pre_matrix (V : Valuation τ sig (Elt Ideal)) (θ φ : Fin 128 → ℝ) (h : TablesAt (after hostOps0 V) θ φ) (i j : Fin 256) :
    Wpre V (Proc.devRef .tc main_v76) (ix2 i j) = ((∑ l, near.mat θ i l * far.mat φ l j : ℝ) : EReal) := by
  rw [Wpre_eq, ops3_v76, diag1_v71]
  rw [after_of_writes_sub _ _ diag1_writes (show main_v70 ∉ diag1Refs by decide), ops2_v70, diag0_v66]
  rw [after_of_writes_sub _ _ diag0_writes (show main_v24 ∉ diag0Refs by decide), after_of_writes_sub _ _ hostOps1_writes (show main_v24 ∉ hostOps1Refs by decide),
    after_of_writes_sub _ _ hostOps1_writes (show main_v21 ∉ hostOps1Refs by decide), after_of_writes_sub _ _ diag0_writes (show main_v57 ∉ diag0Refs by decide),
    ops1_v57, ops0_v56]
  rw [after_of_writes_sub _ _ hostOps2_writes (show main_v45 ∉ hostOps2Refs by decide), after_of_writes_sub _ _ diag0_writes (show main_v45 ∉ diag0Refs by decide),
    after_of_writes_sub _ _ hostOps1_writes (show main_v45 ∉ hostOps1Refs by decide)]
  rw [after_of_writes_sub _ _ diag1_writes (show main_v48 ∉ diag1Refs by decide), after_of_writes_sub _ _ hostOps2_writes (show main_v48 ∉ hostOps2Refs by decide),
    after_of_writes_sub _ _ diag0_writes (show main_v48 ∉ diag0Refs by decide), after_of_writes_sub _ _ hostOps1_writes (show main_v48 ∉ hostOps1Refs by decide)]
  rw [after_of_writes_sub _ _ diag1_writes (show main_v65 ∉ diag1Refs by decide), after_of_writes_sub _ _ hostOps2_writes (show main_v65 ∉ hostOps2Refs by decide),
    after_of_writes_sub _ _ diag0_writes (show main_v65 ∉ diag0Refs by decide), ops1_v65 _ (ops0_v49 V)]
  rw [coe_sum]
  refine (product_apply _ _ i j).trans (Finset.sum_congr rfl fun l _ => ?_)
  rw [EReal.coe_mul]
  exact congrArg₂ (· * ·) (rot_real near θ _ _ _ h.ca h.sa (swap_apply 1) i l) (rot_real far φ _ _ _ h.cb h.sb (swap_apply 128) l j)

theorem pre_flat (V : Valuation τ sig (Elt Ideal)) (r : Fin 32768) (j : Fin 256) :
    Wpre V (Proc.devRef .tc main_v77) (ix1 ⟨256 * r.val + j.val, by omega⟩) = V (Proc.devRef .tc main_arg0) (ix2 r j) := by
  rw [Wpre_eq, ops3_v77]
  refine (shape_apply _ r j).trans ?_
  rw [after_of_writes_sub _ _ diag1_writes (show main_arg0 ∉ diag1Refs by decide), after_of_writes_sub _ _ hostOps2_writes (show main_arg0 ∉ hostOps2Refs by decide),
    after_of_writes_sub _ _ diag0_writes (show main_arg0 ∉ diag0Refs by decide), after_of_writes_sub _ _ hostOps1_writes (show main_arg0 ∉ hostOps1Refs by decide),
    after_of_writes_sub _ _ hostOps0_writes (show main_arg0 ∉ hostOps0Refs by decide)]

end Cert.Proof.K

end
-- ==== Proof.Dense.lean ====
/-
  What the TensorCore call leaves, over the ideal numbers: from row 4096 on, the rows times the matrix.
-/
module

public import proofs.«01_k».proof.Proof.Region
public import proofs.«01_k».proof.Proof.Matrix
public import Idealize.ShloMosaic.Lib.Pipeline.ValueKit.Partial

@[expose] public section

noncomputable section

namespace Cert.Proof.K

open Cert.KernelIdeal Cert.KernelIdeal.Gen

open Idealize.ShloMosaic
open Idealize.ShloMosaic.TcCoe
open Idealize.ShloMosaic.Pipeline (Dat)

/-- The whole array of products. -/
def products (X : FVec Ideal S32768x256 .f32) (M : FVec Ideal S256x256 .f32) : FVec Ideal S32768x256 .f32 :=
  fun x => (∑ l : Fin 256, (X (ix2 (x 0) l) : EReal) * M (ix2 l (x 1)) : EReal)

theorem block_products (X : FVec Ideal S2048x256 .f32) (M : FVec Ideal S256x256 .f32) (r : Fin 2048) (j : Fin 256) :
    (k1_pay1 (F := Ideal) X M (ix2 r j) : EReal) = ∑ l : Fin 256, (X (ix2 r l) : EReal) * M (ix2 l j) := by
  unfold k1_pay1
  pointwise

theorem rows_index : ∀ t : Fin cfg1.N, win1_0.index t = ![t.val + 2, 0] := by decide +kernel
theorem mat_index : ∀ t : Fin cfg1.N, win1_1.index t = ![0, 0] := by decide +kernel
theorem out_index : ∀ t : Fin cfg1.N, win1_2.index t = ![t.val + 2, 0] := by decide +kernel

variable (V : (c : Dev nD) → (b : Ref sig .tc) → Buf (Elt Ideal) ((c : Thread nD τ).loc b))

theorem mmRes_eq (c : Dev nD) (x : S32768x256.Idx) (h : 4096 ≤ (x 0).val) : mmRes V c x = products (V c main_arg0) (V c main_v76) x := by
  have e := (dat V c).arrAt_apply_of_coversWhere 2 (products (V c main_arg0) (V c main_v76)) (P := fun i : S32768x256.Idx => 2 ≤ (i 0).val / 2048)
    (fun β => 2 ≤ β (0 : Fin 2)) (by decide +kernel) (fun t hf y => ?_) (fun j => Iff.rfl) x
  · exact e.trans (if_pos (show 2 ≤ (x 0).val / 2048 by omega))
  · blk_simp
    obtain ⟨r, j, rfl⟩ : ∃ (r : Fin 2048) (j : Fin 256), y = ix2 r j := ⟨y 0, y 1, eq_ix2 y⟩
    refine (block_products (rowsAt V c t) (matAt V c t) r j).trans (Finset.sum_congr rfl fun l _ => congrArg₂ (fun a b : EReal => a * b) ?_ ?_)
    · refine congrArg (V c main_arg0) ?_
      blk_ext [rows_index, out_index]
    · refine congrArg (V c main_v76) ?_
      blk_ext [mat_index, out_index]

end Cert.Proof.K

end
-- ==== Proof.Result.lean ====
/-
  What the kernel leaves, over the ideal numbers: every row through the twenty-four layers.
-/
module

public import proofs.«01_k».proof.Proof.Main
public import proofs.«01_k».proof.Proof.Dense

@[expose] public section

noncomputable section

namespace Cert.Proof.K

open Cert.KernelIdeal Cert.KernelIdeal.Gen

open Idealize.ShloMosaic
open Idealize.ShloMosaic.StableHlo
open Idealize.ShloMosaic.TcCoe
open Cert.Proof.Butterfly (Pairing near far layers layers_all)

/-! ## A flat position of the SparseCore's rows -/

/-- Position `256 * r + j` of a flat array. -/
abbrev flat (r : ℕ) (j : Fin 256) : ℕ := 256 * r + j.val

theorem col_flat (r : ℕ) (j : Fin 256) : col256 (flat r j) = ix1 j := by
  funext a
  obtain rfl : a = 0 := Subsingleton.elim _ _
  exact Fin.ext (show (256 * r + j.val) % 256 = j.val by omega)

theorem xor_flat (r : ℕ) (j : Fin 256) (e : ℕ) (he : e < 256) : flat r j ^^^ e = flat r ⟨j.val ^^^ e, Cert.Proof.Butterfly.xor_lt j e he⟩ :=
  xor_row r j.val e he

theorem add_real (a b : ℝ) {x y : Ideal .f32} (hx : (x : EReal) = (a : EReal)) (hy : (y : EReal) = (b : EReal)) : (FloatOps.addf x y : EReal) = ((a + b : ℝ) : EReal) := by
  rw [EReal.coe_add, ← hx, ← hy]
  rfl
theorem mul_real (a b : ℝ) {x y : Ideal .f32} (hx : (x : EReal) = (a : EReal)) (hy : (y : EReal) = (b : EReal)) : (FloatOps.mulf x y : EReal) = ((a * b : ℝ) : EReal) := by
  rw [EReal.coe_mul, ← hx, ← hy]
  rfl

section Flat

variable (V : Valuation τ sig (Elt Ideal)) (θ φ : Fin 128 → ℝ) (T : TablesAt V θ φ) (X : ℕ → EReal) (x : ℕ → Fin 256 → ℝ)
  (R : ℕ) (hX : ∀ r, r < R → ∀ j, X (flat r j) = ((x r j : ℝ) : EReal))

include T hX

theorem inner_flat (r : ℕ) (hr : r < R) (j : Fin 256) :
    (innerAt (F := Ideal) (V (Proc.devRef .tc main_v21)) (V (Proc.devRef .tc main_v24)) X (flat r j) : EReal) = ((near.rot θ (x r) j : ℝ) : EReal) := by
  unfold innerAt
  rw [col_flat, xor_flat r j 1 (by decide)]
  exact add_real _ _ (mul_real _ _ (T.ca j) (hX r hr j)) (mul_real _ _ (T.sa j) (hX r hr _))

theorem rotated_flat (r : ℕ) (hr : r < R) (j : Fin 256) :
    (rotated (F := Ideal) (V (Proc.devRef .tc main_v21)) (V (Proc.devRef .tc main_v24)) (V (Proc.devRef .tc main_v45)) (V (Proc.devRef .tc main_v48)) X (flat r j) : EReal)
      = ((far.rot φ (near.rot θ (x r)) j : ℝ) : EReal) := by
  unfold rotated
  rw [col_flat, xor_flat r j 128 (by decide)]
  exact add_real _ _ (mul_real _ _ (T.cb j) (inner_flat V θ φ T X x R hX r hr j)) (mul_real _ _ (T.sb j) (inner_flat V θ φ T X x R hX r hr _))

end Flat

/-! ## The joined array -/

section Joined

theorem ops4_v81 (W : Valuation τ sig (Elt Ideal)) : after hostOps4 W (Proc.devRef .tc main_v81)
    = Host.dynamicUpdateSlice (W (Proc.devRef .tc main_v79)) (shapeCast S4096x256 (W (Proc.devRef .tc main_v78)) shapeCasts_S1048576_S4096x256) ![0, 0] updateFits_S32768x256_S4096x256 := by
  after_reads_simp [binaryIndexed_result']
  refine congrArg (fun st => Host.dynamicUpdateSlice _ _ st updateFits_S32768x256_S4096x256) (funext fun k => ?_)
  match k with
  | 0 =>
    show BitVec.toInt ((upto hostOps4 W 3 (Proc.devRef .tc main_c_2) : IVec S_ 32) (Shape.Idx.first h_S_)) = 0
    after_reads_simp []
    rfl
  | 1 =>
    show BitVec.toInt ((upto hostOps4 W 3 (Proc.devRef .tc main_c_3) : IVec S_ 32) (Shape.Idx.first h_S_)) = 0
    after_reads_simp []
    rfl

theorem start_zero (h : S4096x256.rank = S32768x256.rank) (a : Fin 2) : Host.clampedStart S32768x256 S4096x256 h ![0, 0] a = 0 := by
  fin_cases a <;> rfl

theorem joined_low (Y : FVec Ideal S32768x256 .f32) (Z : FVec Ideal S1048576 .f32) (r : Fin 32768) (j : Fin 256) (h : r.val < 4096) :
    (Host.dynamicUpdateSlice Y (shapeCast S4096x256 Z shapeCasts_S1048576_S4096x256) ![0, 0] updateFits_S32768x256_S4096x256 (ix2 r j) : EReal) = Z (ix1 ⟨flat r.val j, by unfold flat; omega⟩) := by
  pointwise
  simp only [start_zero]
  rw [dif_pos (by omega)]
  refine congrArg (fun n => Z (ix1 n)) (Fin.ext ?_)
  show (r.val - 0) * 256 + (j.val - 0) = 256 * r.val + j.val
  omega

theorem joined_high (Y : FVec Ideal S32768x256 .f32) (Z : FVec Ideal S4096x256 .f32) (r : Fin 32768) (j : Fin 256) (h : 4096 ≤ r.val) :
    (Host.dynamicUpdateSlice Y Z ![0, 0] updateFits_S32768x256_S4096x256 (ix2 r j) : EReal) = Y (ix2 r j) := by
  pointwise
  simp only [start_zero]
  rw [dif_neg (by omega)]

end Joined

theorem products_real (Y : FVec Ideal S32768x256 .f32) (M : FVec Ideal S256x256 .f32) (x N : Fin 256 → ℝ) (r : Fin 32768) (j : Fin 256)
    (hY : ∀ l, (Y (ix2 r l) : EReal) = ((x l : ℝ) : EReal)) (hM : ∀ l, (M (ix2 l j) : EReal) = ((N l : ℝ) : EReal)) :
    (products Y M (ix2 r j) : EReal) = ((∑ l, x l * N l : ℝ) : EReal) := by
  rw [coe_sum]
  refine Finset.sum_congr rfl fun l _ => ?_
  rw [EReal.coe_mul, ← hY, ← hM]
  rfl

/-- From the problem's column orders and real data and angles: every row through the twenty-four layers. -/
theorem value (m : (ℓ : Loc nD τ sig) → Buf (Elt Ideal) ℓ) (d : Dev nD) (A : ℕ → Fin 128 → ℝ) (X : Fin 32768 → Fin 256 → ℝ)
    (i0 : ∀ j : Fin 256, W0 m d (Proc.devRef .tc main_arg2) (ix1 j) = BitVec.ofNat 32 j.val)
    (i1 : ∀ j : Fin 256, W0 m d (Proc.devRef .tc main_arg3) (ix1 j) = BitVec.ofNat 32 (j.val / 2 + 128 * (j.val % 2)))
    (hA : ∀ (i : Fin 24) (k : Fin 128), W0 m d (Proc.devRef .tc main_arg1) (ix2 i k) = ((A i.val k : ℝ) : EReal))
    (hX : ∀ r j, W0 m d (Proc.devRef .tc main_arg0) (ix2 r j) = ((X r j : ℝ) : EReal)) (r : Fin 32768) (j : Fin 256) :
    WD m d (Proc.devRef .tc main_v81) (ix2 r j) = ((layers A (X r) 24 j : ℝ) : EReal) := by
  have T0 := tables_real (W0 m d) A i0 i1 hA
  have T : TablesAt (WA m d) _ _ := pre_tables _ _ _ T0
  unfold WD
  rw [ops4_v81, layers_all]
  by_cases h : r.val < 4096
  · refine (joined_low _ _ r j h).trans ?_
    rw [WC_ne m d _ (devRef_ne (show main_v78 ≠ main_v79 by decide)), WB_v78]
    refine rotated_flat (WA m d) _ _ T _ (fun n => X ⟨n % 32768, Nat.mod_lt _ (by decide)⟩) 32768 (fun n hn l => ?_) r.val r.isLt j |>.trans ?_
    · refine (congrArg (WA m d (Proc.devRef .tc main_v77)) (at8388608_of (ix1 ⟨256 * n + l.val, by omega⟩) _ rfl).symm).trans ?_
      refine (pre_flat (W0 m d) ⟨n, hn⟩ l).trans ((hX _ _).trans ?_)
      simp only [Nat.mod_eq_of_lt hn]
    · simp only [Nat.mod_eq_of_lt r.isLt]
  · refine (joined_high _ _ r j (by omega)).trans ?_
    rw [WC_v79]
    refine (mmRes_eq (VB m) d (ix2 r j) (show 4096 ≤ r.val by omega)).trans ?_
    rw [← Pairing.vec_mat_mat]
    refine products_real _ _ _ _ r j (fun l => ?_) fun l => ?_
    · refine Eq.trans ?_ (hX r l)
      show WB m d (Proc.devRef .tc main_arg0) (ix2 r l) = _
      rw [WB_ne m d _ (devRef_ne (show main_arg0 ≠ main_v78 by decide))]
      exact congrFun (Wpre_keep (W0 m d) main_arg0 (by decide) (by decide) (by decide) (by decide) (by decide) (by decide)) _
    · refine Eq.trans ?_ (pre_matrix (W0 m d) _ _ T0 l j)
      show WB m d (Proc.devRef .tc main_v76) (ix2 l j) = _
      rw [WB_ne m d _ (devRef_ne (show main_v76 ≠ main_v78 by decide))]
      rfl

end Cert.Proof.K

end
-- ==== Proof.Columns.lean ====
/-
  The reference's reads and writes of columns: gathering 128 columns of the array by their numbers, and setting 128 columns,
  read at an element.
-/
module

public import proofs.«01_k».proof.Proof.Gen.ReferenceIdeal
public import Idealize.ShloMosaic.Lib.Routing.OpsSet
public import Idealize.ShloMosaic.Lib.Pointwise.Index

@[expose] public section

noncomputable section

namespace Cert.Proof.Ref

open Cert.ReferenceIdeal Cert.ReferenceIdeal.Gen

open Idealize.ShloMosaic

/-- Columns gathered: entry `(r, k)` of the result is entry `(r, c)` of the array, `c` the `k`-th number. -/
theorem gather_cols {α : Type} (x : S32768x256.Idx → α) (idx : IVec S128x1 32) (r : Fin 32768) (k : Fin 128) (c : Fin 256)
    (hc : (idx (ix2 k 0)).toInt = c.val) :
    Host.gather gather_S32768x256_S128x1_S32768x128_0_1_n_n_1_1_327681 x idx (ix2 r k) = x (ix2 r c) := by
  unfold Host.gather
  refine congrArg x (funext fun a => Fin.ext ?_)
  match a with
  | ⟨0, _⟩ => exact (Nat.zero_add _ : 0 + 0 + r.val = r.val)
  | ⟨1, _⟩ =>
    show gather_S32768x256_S128x1_S32768x128_0_1_n_n_1_1_327681.start (ix2 r k) idx 1 + 0 + 0 = c.val
    unfold GatherDims.start
    rw [dif_pos (show (1 : Fin S32768x256.rank) ∈ gather_S32768x256_S128x1_S32768x128_0_1_n_n_1_1_327681.startIndexMap from List.mem_singleton.mpr rfl)]
    have hsi : gather_S32768x256_S128x1_S32768x128_0_1_n_n_1_1_327681.siIdx (ix2 r k) ⟨List.idxOf (1 : Fin 2) gather_S32768x256_S128x1_S32768x128_0_1_n_n_1_1_327681.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi, hc]
    show min c.val 255 + 0 + 0 = c.val
    omega

/-- Where the scatter's update `(r, k)` lands. -/
theorem scatter_lands (idx : IVec S128x1 32) (r r' : Fin 32768) (k : Fin 128) (c : Fin 256) :
    scatter_S32768x256_S128x1_S32768x128_0_1_1_1.resultIdx? (ix2 r' k) idx = some (ix2 r c) ↔ r' = r ∧ (idx (ix2 k 0)).toInt = c.val := by
  rw [Routing.resultIdx?_eq_some]
  have s0 : scatter_S32768x256_S128x1_S32768x128_0_1_1_1.start (ix2 r' k) idx 0 = 0 := rfl
  have w0 : scatter_S32768x256_S128x1_S32768x128_0_1_1_1.window (ix2 r' k) 0 = r'.val := rfl
  have w1 : scatter_S32768x256_S128x1_S32768x128_0_1_1_1.window (ix2 r' k) 1 = 0 := rfl
  have s1 : scatter_S32768x256_S128x1_S32768x128_0_1_1_1.start (ix2 r' k) idx 1 = (idx (ix2 k 0)).toInt := by
    unfold ScatterDims.start
    rw [dif_pos (show (1 : Fin S32768x256.rank) ∈ scatter_S32768x256_S128x1_S32768x128_0_1_1_1.scatterDimsToOperandDims from List.mem_singleton.mpr rfl)]
    refine congrArg (fun i => (idx i).toInt) ?_
    funext b; refine Fin.ext ?_
    match b with
    | ⟨0, _⟩ => rfl
    | ⟨1, _⟩ => rfl
  constructor
  · intro h
    have h0 := h 0
    have h1 := h 1
    rw [s0, w0] at h0
    rw [s1, w1] at h1
    have h0' : (0 : Int) + (r'.val : Int) = (r.val : Int) := h0
    have h1' : (idx (ix2 k 0)).toInt + ((0 : ℕ) : Int) = (c.val : Int) := h1
    exact ⟨Fin.ext (by omega), by omega⟩
  · rintro ⟨rfl, h⟩ a
    match a with
    | ⟨0, _⟩ => show scatter_S32768x256_S128x1_S32768x128_0_1_1_1.start (ix2 r' k) idx 0 + (scatter_S32768x256_S128x1_S32768x128_0_1_1_1.window (ix2 r' k) 0 : Int) = (r'.val : Int)
                rw [s0, w0]; omega
    | ⟨1, _⟩ => show scatter_S32768x256_S128x1_S32768x128_0_1_1_1.start (ix2 r' k) idx 1 + (scatter_S32768x256_S128x1_S32768x128_0_1_1_1.window (ix2 r' k) 1 : Int) = (c.val : Int)
                rw [s1, w1, h]; omega

/-- Columns set, their numbers distinct: the `k`-th column's entries are the `k`-th updates. -/
theorem scatter_hit {α : Type} (x : S32768x256.Idx → α) (idx : IVec S128x1 32) (u : S32768x128.Idx → α) (n : Fin 128 → Fin 256)
    (hn : ∀ k, (idx (ix2 k 0)).toInt = (n k).val) (inj : Function.Injective n) (r : Fin 32768) (k : Fin 128) :
    Host.scatter scatter_S32768x256_S128x1_S32768x128_0_1_1_1 (fun _ b => b) x idx u (ix2 r (n k)) = u (ix2 r k) :=
  Routing.scatter_set_hit _ x idx u _ _ (fun q hq => by
    obtain ⟨r', k', rfl⟩ : ∃ (a : Fin 32768) (b : Fin 128), q = ix2 a b := ⟨q 0, q 1, eq_ix2 q⟩
    obtain ⟨rfl, h⟩ := (scatter_lands idx r r' k' (n k)).1 hq
    rw [hn] at h
    obtain rfl : k' = k := inj (Fin.ext (by exact_mod_cast h))
    rfl) (ix2 r k) ((scatter_lands idx r r k (n k)).2 ⟨rfl, hn k⟩)

/-- Elsewhere the array is as it was. -/
theorem scatter_miss {α : Type} (x : S32768x256.Idx → α) (idx : IVec S128x1 32) (u : S32768x128.Idx → α) (n : Fin 128 → Fin 256)
    (hn : ∀ k, (idx (ix2 k 0)).toInt = (n k).val) (r : Fin 32768) (c : Fin 256) (hc : ∀ k, n k ≠ c) :
    Host.scatter scatter_S32768x256_S128x1_S32768x128_0_1_1_1 (fun _ b => b) x idx u (ix2 r c) = x (ix2 r c) :=
  Routing.scatter_set_miss _ x idx u _ fun q hq => by
    obtain ⟨r', k', rfl⟩ : ∃ (a : Fin 32768) (b : Fin 128), q = ix2 a b := ⟨q 0, q 1, eq_ix2 q⟩
    obtain ⟨rfl, h⟩ := (scatter_lands idx r r' k' c).1 hq
    rw [hn] at h
    exact hc k' (Fin.ext (by exact_mod_cast h))

end Cert.Proof.Ref

end
-- ==== Proof.RefStep.lean ====
/-
  One of the reference's layers, over the ideal numbers: it rotates every row by the layer's angles over the layer's pairing.
-/
module

public import proofs.«01_k».proof.Proof.Columns
public import proofs.«01_k».proof.Proof.Butterfly
public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Value

open Idealize.ShloMosaic
open Cert.Proof.Butterfly (Pairing Ends)

theorem small_toInt (n : ℕ) (h : n < 256) : (BitVec.ofNat 32 n).toInt = n := by
  rw [BitVec.toInt_eq_toNat_cond, BitVec.toNat_ofNat, Nat.mod_eq_of_lt (by omega), if_pos (by omega)]

/-- Column numbers as the program makes them of a vector `g`: 256 added to a negative one. None of `g` is. -/
theorem column_number (g : IVec S128 32) (n : Fin 128 → Fin 256) (hg : ∀ k, g (ix1 k) = BitVec.ofNat 32 (n k).val) (k : Fin 128) :
    ((broadcastInDim S128x1 ![0] bcast_S128_S128x1_0 (select (cmpi .slt g (broadcastInDim S128 ![] bcast_S_S128 (constantI S_ 32 0#32))) (addi g (broadcastInDim S128 ![] bcast_S_S128 (constantI S_ 32 256#32))) g) : IVec S128x1 32) (ix2 k 0)).toInt
      = (n k).val := by
  pointwise [hg]
  generalize n k = j
  revert j
  decide

theorem layer_angles (V : Valuation τ sig (Elt Ideal)) (l : Fin 24) (hl : V (Proc.devRef .tc main_v0_4) = fun _ => BitVec.ofNat 32 l.val) (k : Fin 128) :
    res_main_while0b_v12 V (ix1 k) = V (Proc.devRef .tc main_v0_2) (ix2 l k) := by
  unfold res_main_while0b_v12 res_main_while0b_v4
  rw [hl]
  pointwise
  refine congrArg (V (Proc.devRef .tc main_v0_2)) ?_
  refine congrArg₂ ix2 (Fin.ext ?_) (Fin.ext ?_)
  · fin_cases l <;> rfl
  · refine (congrArg (· + k.val) (?_ : _ = 0)).trans (Nat.zero_add _)
    rfl

/-- The layer's update of the array, `A` and `B` the two gathered halves. -/
theorem rotated_pair (u v : Vec Ideal S128 .f32) (A B : Vec Ideal S32768x128 .f32) (r : Fin 32768) (k : Fin 128) :
    (addf (mulf (broadcastInDim S32768x128 ![0, 1] bcast_S1x128_S32768x128_0_1 (broadcastInDim S1x128 ![1] bcast_S128_S1x128_1 u)) A)
      (mulf (broadcastInDim S32768x128 ![0, 1] bcast_S1x128_S32768x128_0_1 (broadcastInDim S1x128 ![1] bcast_S128_S1x128_1 v)) B) : FVec Ideal S32768x128 .f32) (ix2 r k)
      = (u (ix1 k) * A (ix2 r k) + v (ix1 k) * B (ix2 r k) : EReal) := by
  pointwise

/-- One layer. -/
theorem step_value (V : Valuation τ sig (Elt Ideal)) (l : Fin 24) (hl : V (Proc.devRef .tc main_v0_4) = fun _ => BitVec.ofNat 32 l.val)
    (P : Pairing) (a b : Fin 128 → Fin 256) (E : Ends P a b)
    (ha : ∀ k, res_main_while0b_v13 V (ix1 k) = BitVec.ofNat 32 (a k).val) (hb : ∀ k, res_main_while0b_v14 V (ix1 k) = BitVec.ofNat 32 (b k).val)
    (Θ : Fin 128 → ℝ) (hΘ : ∀ k, V (Proc.devRef .tc main_v0_2) (ix2 l k) = ((Θ k : ℝ) : EReal))
    (X : Fin 32768 → Fin 256 → ℝ) (hX : ∀ r j, V (Proc.devRef .tc main_v0_5) (ix2 r j) = ((X r j : ℝ) : EReal)) (r : Fin 32768) (j : Fin 256) :
    step_main_v0_5 V (ix2 r j) = ((P.rot Θ (X r) j : ℝ) : EReal) := by
  have ia : Function.Injective a := fun x y h => by rw [← E.ka x, h, E.ka]
  have ib : Function.Injective b := fun x y h => by rw [← E.kb x, h, E.kb]
  have na := fun k => column_number _ a ha k
  have nb := fun k => column_number _ b hb k
  have c : ∀ k, res_main_while0b_v15 V (ix1 k) = ((Real.cos (Θ k) : ℝ) : EReal) := fun k => by
    show Ideal.cos (res_main_while0b_v12 V (ix1 k)) = _
    rw [layer_angles V l hl, hΘ, Ideal.cos_coe]
  have s : ∀ k, res_main_while0b_v16 V (ix1 k) = ((Real.sin (Θ k) : ℝ) : EReal) := fun k => by
    show Ideal.sin (res_main_while0b_v12 V (ix1 k)) = _
    rw [layer_angles V l hl, hΘ, Ideal.sin_coe]
  have s' : ∀ k, Host.negf (res_main_while0b_v16 V) (ix1 k) = ((-Real.sin (Θ k) : ℝ) : EReal) := fun k => by
    refine (congrArg (fun e : EReal => -e) (s k)).trans ?_
    rw [EReal.coe_neg]
  have A : ∀ k, res_main_while0b_v23 V (ix2 r k) = ((X r (a k) : ℝ) : EReal) := fun k => (gather_cols _ _ r k (a k) (na k)).trans (hX r (a k))
  have B : ∀ k, res_main_while0b_v30 V (ix2 r k) = ((X r (b k) : ℝ) : EReal) := fun k => (gather_cols _ _ r k (b k) (nb k)).trans (hX r (b k))
  unfold step_main_v0_5
  rw [id_eq]
  rcases E.all j with ⟨k, rfl⟩ | ⟨k, rfl⟩
  · have ne : ∀ k', b k' ≠ a k := fun k' h => by
      have := congrArg P.s h
      rw [E.sb, E.sa] at this
      norm_num at this
    refine (scatter_miss _ _ _ b nb r (a k) ne).trans ((scatter_hit _ _ _ a na ia r k).trans ((rotated_pair _ _ _ _ r k).trans ?_))
    rw [c, s, A, B, ← EReal.coe_mul, ← EReal.coe_mul, ← EReal.coe_add]
    simp only [Pairing.rot, E.ka, E.pa, E.sa, one_mul]
  · refine (scatter_hit _ _ _ b nb ib r k).trans ((rotated_pair _ _ _ _ r k).trans ?_)
    rw [c, s', A, B, ← EReal.coe_mul, ← EReal.coe_mul, ← EReal.coe_add]
    refine congrArg _ ?_
    simp only [Pairing.rot, E.kb, E.pb, E.sb]
    ring

end Cert.Proof.Ref

end
-- ==== Proof.RefValue.lean ====
/-
  What the reference leaves: every row through the twenty-four layers.
-/
module

public import proofs.«01_k».proof.Proof.RefStep
public import Idealize.ShloMosaic.Lib.StableHlo.RunRead

@[expose] public section

noncomputable section

namespace Cert.Proof.Ref

open Cert.ReferenceIdeal Cert.ReferenceIdeal.Gen Cert.ReferenceIdeal.Value

open Idealize.ShloMosaic
open Idealize.ShloMosaic.StableHlo Idealize.ShloMosaic.HostLoop
open Idealize.ShloMosaic.TcCoe
open Cert.Proof.Butterfly (Pairing near far pairingOf layers nearA nearB farA farB near_ends far_ends)

/-- The buffers that the loop carries, before layer `l`. -/
structure Before (A : ℕ → Fin 128 → ℝ) (X : Fin 32768 → Fin 256 → ℝ) (l : ℕ) (V : Valuation τ sig (Elt Ideal)) : Prop where
  i0 : ∀ j : Fin 256, V (Proc.devRef .tc main_v0_0) (ix1 j) = BitVec.ofNat 32 j.val
  i1 : ∀ j : Fin 256, V (Proc.devRef .tc main_v0_1) (ix1 j) = BitVec.ofNat 32 (j.val / 2 + 128 * (j.val % 2))
  angles : ∀ (i : Fin 24) (k : Fin 128), V (Proc.devRef .tc main_v0_2) (ix2 i k) = ((A i.val k : ℝ) : EReal)
  count : V (Proc.devRef .tc main_v0_4) = fun _ => BitVec.ofNat 32 l
  rows : ∀ (r : Fin 32768) (j : Fin 256), V (Proc.devRef .tc main_v0_5) (ix2 r j) = ((layers A (X r) l j : ℝ) : EReal)

/-- The layer's column numbers: `indices_in`'s for the first twelve, `idx_out`'s for the others. -/
theorem numbers (V : Valuation τ sig (Elt Ideal)) (l : ℕ) (hl : l < 24) (hc : V (Proc.devRef .tc main_v0_4) = fun _ => BitVec.ofNat 32 l) (j : Fin 256) :
    res_main_while0b_v3 V (ix1 j) = if l < 12 then V (Proc.devRef .tc main_v0_0) (ix1 j) else V (Proc.devRef .tc main_v0_1) (ix1 j) := by
  unfold res_main_while0b_v3
  rw [hc]
  pointwise
  interval_cases l <;> rfl

theorem first_numbers (V : Valuation τ sig (Elt Ideal)) (k : Fin 128) : res_main_while0b_v13 V (ix1 k) = res_main_while0b_v3 V (ix1 (nearA k)) := by
  unfold res_main_while0b_v13
  pointwise
  rfl

theorem second_numbers (V : Valuation τ sig (Elt Ideal)) (k : Fin 128) : res_main_while0b_v14 V (ix1 k) = res_main_while0b_v3 V (ix1 (nearB k)) := by
  unfold res_main_while0b_v14
  pointwise
  exact congrArg (fun i => res_main_while0b_v3 V (ix1 i)) (Fin.ext (Nat.add_comm 1 (2 * k.val)))

theorem before_succ {A : ℕ → Fin 128 → ℝ} {X : Fin 32768 → Fin 256 → ℝ} {l : ℕ} {V : Valuation τ sig (Elt Ideal)} (hl : l < 24) (h : Before A X l V) :
    Before A X (l + 1) (STEP V) where
  i0 j := by rw [STEP_main_v0_0]; exact h.i0 j
  i1 j := by rw [STEP_main_v0_1]; exact h.i1 j
  angles i k := by rw [STEP_main_v0_2]; exact h.angles i k
  count := by
    rw [STEP_main_v0_4]
    unfold step_main_v0_4
    rw [h.count]
    funext i
    show BitVec.ofNat 32 l + BitVec.ofNat 32 1 = BitVec.ofNat 32 (l + 1)
    rw [← BitVec.ofNat_add]
  rows r j := by
    rw [STEP_main_v0_5]
    rw [layers, pairingOf]
    split_ifs with hlt
    · refine step_value V ⟨l, hl⟩ h.count near nearA nearB near_ends (fun k => ?_) (fun k => ?_) (A l) (h.angles ⟨l, hl⟩) (fun r => layers A (X r) l) h.rows r j
      · rw [first_numbers, numbers V l hl h.count, if_pos hlt, h.i0]
      · rw [second_numbers, numbers V l hl h.count, if_pos hlt, h.i0]
    · refine step_value V ⟨l, hl⟩ h.count far farA farB far_ends (fun k => ?_) (fun k => ?_) (A l) (h.angles ⟨l, hl⟩) (fun r => layers A (X r) l) h.rows r j
      · rw [first_numbers, numbers V l hl h.count, if_neg hlt, h.i1]
        exact congrArg _ (show 2 * k.val / 2 + 128 * (2 * k.val % 2) = k.val by omega)
      · rw [second_numbers, numbers V l hl h.count, if_neg hlt, h.i1]
        exact congrArg _ (show (2 * k.val + 1) / 2 + 128 * ((2 * k.val + 1) % 2) = k.val + 128 by omega)

theorem before_iterate {A : ℕ → Fin 128 → ℝ} {X : Fin 32768 → Fin 256 → ℝ} {V : Valuation τ sig (Elt Ideal)} (h : Before A X 0 V) :
    ∀ l, l ≤ 24 → Before A X l (STEP^[l] V)
  | 0, _ => h
  | l + 1, hl => by
    rw [Function.iterate_succ_apply']
    exact before_succ (by omega) (before_iterate h l (by omega))

section Run

variable (m : (ℓ : Loc nD τ sig) → Buf (Elt Ideal) ℓ) (c : Dev nD)

theorem entry_i0 : entryContents preI m c (Proc.devRef .tc main_v0_0) = m ((c.tc : Thread nD τ).loc main_arg2) := by
  simp only [entryContents, afterL_cons, afterL_nil]
  after_reads_simp []
  rfl
theorem entry_i1 : entryContents preI m c (Proc.devRef .tc main_v0_1) = m ((c.tc : Thread nD τ).loc main_arg3) := by
  simp only [entryContents, afterL_cons, afterL_nil]
  after_reads_simp []
  rfl
theorem entry_angles : entryContents preI m c (Proc.devRef .tc main_v0_2) = m ((c.tc : Thread nD τ).loc main_arg1) := by
  simp only [entryContents, afterL_cons, afterL_nil]
  after_reads_simp []
  rfl
theorem entry_count : entryContents preI m c (Proc.devRef .tc main_v0_4) = fun _ => BitVec.ofNat 32 0 := by
  simp only [entryContents, afterL_cons, afterL_nil]
  after_reads_simp []
  rfl
theorem entry_rows : entryContents preI m c (Proc.devRef .tc main_v0_5) = m ((c.tc : Thread nD τ).loc main_arg0) := by
  simp only [entryContents, afterL_cons, afterL_nil]
  after_reads_simp []
  rfl

/-- The reference's result, of arguments as the precondition has them. -/
theorem result (A : ℕ → Fin 128 → ℝ) (X : Fin 32768 → Fin 256 → ℝ)
    (i0 : ∀ j : Fin 256, m ((c.tc : Thread nD τ).loc main_arg2) (ix1 j) = BitVec.ofNat 32 j.val)
    (i1 : ∀ j : Fin 256, m ((c.tc : Thread nD τ).loc main_arg3) (ix1 j) = BitVec.ofNat 32 (j.val / 2 + 128 * (j.val % 2)))
    (hA : ∀ (i : Fin 24) (k : Fin 128), m ((c.tc : Thread nD τ).loc main_arg1) (ix2 i k) = ((A i.val k : ℝ) : EReal))
    (hX : ∀ (r : Fin 32768) (j : Fin 256), m ((c.tc : Thread nD τ).loc main_arg0) (ix2 r j) = ((X r j : ℝ) : EReal)) (r : Fin 32768) (j : Fin 256) :
    (STEP^[24] (entryContents preI m c)) (Proc.devRef .tc main_v0_5) (ix2 r j) = ((layers A (X r) 24 j : ℝ) : EReal) := by
  have h0 : Before A X 0 (entryContents preI m c) :=
    ⟨fun j => by rw [entry_i0]; exact i0 j, fun j => by rw [entry_i1]; exact i1 j, fun i k => by rw [entry_angles]; exact hA i k, entry_count m c,
      fun r j => by rw [entry_rows]; exact hX r j⟩
  exact (before_iterate h0 24 le_rfl).rows r j

end Run

end Cert.Proof.Ref

end
-- ==== Proof.Pre.lean ====
/-
  The precondition read back: the two column orders are the problem's, and the data and the angles are real numbers.
-/
module

public import proofs.«01_k».proof.Defs
public import Idealize.ShloMosaic.Lib.Pointwise
public import Idealize.ShloMosaic.Lib.ReduceAll
public import Idealize.ShloMosaic.Lib.Affine

@[expose] public section

noncomputable section

namespace Cert.Pre_drawn.Gen

open Idealize.ShloMosaic

theorem facts : Cert.Pre_drawn.Facts where
  reducesTo_S256_S_d0 := by decide
  h_S_ := by decide
  bcast_S_S256 := by decide
  bcast_S_S32768x256 := by decide
  reducesTo_S32768x256_S_d0_1 := by decide
  bcast_S_S24x128 := by decide
  reducesTo_S24x128_S_d0_1 := by decide

end Cert.Pre_drawn.Gen

namespace Cert.Proof.Pre

open Cert.Pre_drawn Idealize.ShloMosaic

variable [Facts]

theorem and_one {a b : BitVec 1} (h : IntOp.andi a b = 1#1) : a = 1#1 ∧ b = 1#1 := by
  revert h
  revert a b
  decide

theorem finite_real (x : EReal) (h : FloatOps.cmpf (F := Ideal) .olt (φ := .f32) (FloatOps.absf (F := Ideal) (φ := .f32) x) (FloatOps.ofBits .f32 0x7F800000#32) = 1#1) :
    x = ((x.toReal : ℝ) : EReal) := by
  have top : Ideal.ofBits .f32 0x7F800000#32 = ⊤ := by simp [Ideal.ofBits, Ideal.ieee]
  have lt : max x (-x) < ⊤ := by
    rw [← top]
    exact of_decide_eq_true ((BitVec.ofBool_eq_iff_eq (b := decide _) (b' := true)).mp h)
  refine (EReal.coe_toReal (fun e => ?_) fun e => ?_).symm
  · rw [e] at lt
    simp at lt
  · rw [e] at lt
    simp at lt

open Facts in
/-- The second order's entry, as the predicate computes it. -/
theorem order_word (j : Fin 256) :
    (addi (Host.shrsi (iotaInDim S256 32 0) (broadcastInDim S256 ![] bcast_S_S256 (constantI S_ 32 1#32)))
      (muli (broadcastInDim S256 ![] bcast_S_S256 (constantI S_ 32 128#32))
        (andi (iotaInDim S256 32 0) (broadcastInDim S256 ![] bcast_S_S256 (constantI S_ 32 1#32)))) : IVec S256 32) (ix1 j)
      = BitVec.ofNat 32 (j.val / 2 + 128 * (j.val % 2)) := by
  pointwise
  revert j
  decide

variable (D : FVec Ideal S32768x256 .f32) (B : FVec Ideal S24x128 .f32) (p q : IVec S256 32)

/-- What it says. -/
structure Says : Prop where
  p : ∀ j : Fin 256, p (ix1 j) = BitVec.ofNat 32 j.val
  q : ∀ j : Fin 256, q (ix1 j) = BitVec.ofNat 32 (j.val / 2 + 128 * (j.val % 2))
  angles : ∀ (i : Fin 24) (k : Fin 128), (B (ix2 i k) : EReal) = (((B (ix2 i k) : EReal).toReal : ℝ) : EReal)
  rows : ∀ (r : Fin 32768) (j : Fin 256), (D (ix2 r j) : EReal) = (((D (ix2 r j) : EReal).toReal : ℝ) : EReal)

theorem decoded (h : fn (F := Ideal) D B p q = fun _ => 1#1) : Says D B p q := by
  have h := congrFun h (fun a => a.elim0)
  dsimp only [fn, fn_part1] at h
  obtain ⟨h, hB⟩ := and_one h
  obtain ⟨h, hD⟩ := and_one h
  obtain ⟨hp, hq⟩ := and_one h
  refine ⟨fun j => ?_, fun j => ?_, fun i k => ?_, fun r j => ?_⟩
  · have e := Host.reduce_andi_all _ _ _ _ _ hp (ix1 j)
    exact IntOp.cmpi_eq.mp e
  · have e := Host.reduce_andi_all _ _ _ _ _ hq (ix1 j)
    exact (IntOp.cmpi_eq.mp e).trans (order_word j)
  · exact finite_real _ (Host.reduce_andi_all _ _ _ _ _ hB (ix2 i k))
  · exact finite_real _ (Host.reduce_andi_all _ _ _ _ _ hD (ix2 r j))

end Cert.Proof.Pre

end
-- ==== Proof.Algebraic.lean ====
/-
  The kernel and the reference leave one array, over the ideal numbers: every row through the twenty-four layers.
-/
module

public import proofs.«01_k».proof.Proof.Frames
public import proofs.«01_k».proof.Proof.RefFrame
public import proofs.«01_k».proof.Proof.Result
public import proofs.«01_k».proof.Proof.RefValue
public import proofs.«01_k».proof.Proof.Pre

@[expose] public section

noncomputable section

namespace Cert.Proof

open Idealize.ShloMosaic
open Idealize.ShloMosaic.TcCoe
open Idealize.SL Idealize.SL.Sem

variable [Cert.Pre_drawn.Facts]

theorem K.frame_ideal_drawn : Cert.quiescent_KernelIdeal_pre_drawn := fun m ρ _ => K.frame_ideal m ρ trivial

theorem Ref.frame_ref_drawn : Cert.quiescent_ReferenceIdeal_pre_drawn := fun m ρ _ => Ref.frame_ref m ρ trivial

theorem algebraic : Cert.algebraic_KernelIdeal_ReferenceIdeal_pre_drawn := fun m g m' g' hpre hargs => by
  refine ⟨fun c => K.WD m c (Proc.devRef .tc Cert.KernelIdeal.main_v81),
    (θ_run Cert.KernelIdeal.defs _ _).mono (fun _ h => h.1) (K.run_args (F := Ideal) m g),
    (θ_run Cert.ReferenceIdeal.defs _ _).mono (fun r h c => ?_) (Cert.ReferenceIdeal.Value.run (F := Ideal) m' g')⟩
  obtain ⟨e0, e1, e2, e3⟩ := hargs c
  refine ⟨(h c).1.trans ?_, (h c).2⟩
  have S := Pre.decoded _ _ _ _ (hpre c)
  let A : ℕ → Fin 128 → ℝ := fun i k => (m ((c.tc : Thread Cert.KernelIdeal.nD Cert.KernelIdeal.τ).loc Cert.KernelIdeal.main_arg1) (ix2 (⟨i % 24, Nat.mod_lt _ (by decide)⟩ : Fin 24) k) : EReal).toReal
  let X : Fin 32768 → Fin 256 → ℝ := fun r j => (m ((c.tc : Thread Cert.KernelIdeal.nD Cert.KernelIdeal.τ).loc Cert.KernelIdeal.main_arg0) (ix2 r j) : EReal).toReal
  have hA : ∀ (i : Fin 24) (k : Fin 128), m ((c.tc : Thread Cert.KernelIdeal.nD Cert.KernelIdeal.τ).loc Cert.KernelIdeal.main_arg1) (ix2 i k) = ((A i.val k : ℝ) : EReal) := fun i k => by
    have e := S.angles i k
    simp only [A, Nat.mod_eq_of_lt i.isLt]
    exact e
  funext x
  obtain ⟨r, j, rfl⟩ : ∃ (r : Fin 32768) (j : Fin 256), x = ix2 r j := ⟨x 0, x 1, eq_ix2 x⟩
  refine (Ref.result m' c A X (fun j => (congrFun e2 _).trans (S.p j)) (fun j => (congrFun e3 _).trans (S.q j))
    (fun i k => (congrFun e1 _).trans (hA i k)) (fun r j => (congrFun e0 _).trans (S.rows r j)) r j).trans ?_
  exact (K.value m c A X S.p S.q hA S.rows r j).symm

end Cert.Proof

end
-- ==== Proof.lean ====
/-
  The claims: the frames of the kernel (Proof/Frames.lean) and of the reference (Proof/RefFrame.lean), the idealization, which
  has no rewrite to justify, and that the kernel and the reference leave one array (Proof/Algebraic.lean).
-/
module

public import proofs.«01_k».proof.Defs
public import proofs.«01_k».proof.Proof.Frames
public import proofs.«01_k».proof.Proof.RefFrame
public import proofs.«01_k».proof.Proof.Algebraic

@[expose] public section

noncomputable section

namespace Cert.Proof

theorem claim : Cert.Claim :=
  have : Cert.Pre_drawn.Facts := Cert.Pre_drawn.Gen.facts
  ⟨Cert.Kernel.Gen.facts, Cert.KernelIdeal.Gen.facts, Cert.ReferenceIdeal.Gen.facts, Cert.Pre_drawn.Gen.facts,
    K.frame_kernel, K.frame_ideal, K.frame_ideal_drawn, Ref.frame_ref, Ref.frame_ref_drawn, trivial, algebraic⟩

end Cert.Proof

end
